-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x200 : Shape := ⟨2, ![1024, 200]⟩
abbrev S100000x128 : Shape := ⟨2, ![100000, 128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S100000x128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S100000x128 : Shape := ⟨2, ![100000, 128]⟩
abbrev S204800 : Shape := ⟨1, ![204800]⟩
abbrev S204800x128 : Shape := ⟨2, ![204800, 128]⟩
abbrev S6400 : Shape := ⟨1, ![6400]⟩
abbrev S128x128 : Shape := ⟨2, ![128, 128]⟩
abbrev S_ : Shape := ⟨0, ![]⟩
abbrev S1280 : Shape := ⟨1, ![1280]⟩
abbrev S128 : Shape := ⟨1, ![128]⟩
abbrev S1024x200x128 : Shape := ⟨3, ![1024, 200, 128]⟩

abbrev nBuf : Table → Nat
  | .hbm => 5
  | .local .scVector .vmem => 6
  | _ => 0

abbrev bufTy : (tb : Table) → Fin (nBuf tb) → BufTy
  | .hbm, ⟨0, _⟩ => ⟨S1024x200, .i32⟩
  | .hbm, ⟨1, _⟩ => ⟨S100000x128, .f32⟩
  | .hbm, ⟨2, _⟩ => ⟨S204800, .i32⟩
  | .hbm, ⟨3, _⟩ => ⟨S204800x128, .f32⟩
  | .hbm, ⟨4, _⟩ => ⟨S1024x200x128, .f32⟩
  | .local .scVector .vmem, ⟨0, _⟩ => ⟨S6400, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S1024x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
def k0_off2 (i : grid0.Coords) (c1280_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v3 : BitVec 32 := Scalar.addi v2 c1280_i32
  ![v3.toNat]
@[reducible] def k0_t1_loop : Scf.Loop 32 :=
  let c0_i32_14 : BitVec 32 := 0#32
  let c10_i32 : BitVec 32 := 10#32
  let v29 : BitVec 32 := Scalar.addi c0_i32_14 c10_i32
  let c1_i32 : BitVec 32 := 1#32
  ⟨c0_i32_14, v29, c1_i32⟩
def k0_cond2 (k0_t1 : Fin k0_t1_loop.trips) : BitVec 1 :=
  let c0_i32_14 : BitVec 32 := 0#32
  let c1_i32 : BitVec 32 := 1#32
  let arg22 : BitVec 32 := Scf.iv c0_i32_14 c1_i32 k0_t1
  let c5_i32 : BitVec 32 := 5#32
  let v40 : BitVec 32 := Scalar.muli arg22 c5_i32
  let c0_i32_38 : BitVec 32 := 0#32
  let v44 : BitVec 32 := Scalar.addi v40 c0_i32_38
  let c3_i32 : BitVec 32 := 3#32
  let v45 : BitVec 32 := Scalar.addi v44 c3_i32
  let c50_i32 : BitVec 32 := 50#32
  let v46 : BitVec 1 := Scalar.cmpi .slt v45 c50_i32
  let v47 : BitVec 32 := Scalar.extui v46
  let c0_i32_39 : BitVec 32 := 0#32
  let v48 : BitVec 1 := Scalar.cmpi .ne v47 c0_i32_39
  v48

def k0_off3 (k0_t1 : Fin k0_t1_loop.trips) : Fin 1 → Nat :=
  let c0_i32_14 : BitVec 32 := 0#32
  let c1_i32 : BitVec 32 := 1#32
  let arg22 : BitVec 32 := Scf.iv c0_i32_14 c1_i32 k0_t1
  let c5_i32 : BitVec 32 := 5#32
  let v40 : BitVec 32 := Scalar.muli arg22 c5_i32
  let c0_i32_38 : BitVec 32 := 0#32
  let v44 : BitVec 32 := Scalar.addi v40 c0_i32_38
  let c3_i32_88 : BitVec 32 := 3#32
  let v103 : BitVec 32 := Scalar.addi v44 c3_i32_88
  let c128_i32_89 : BitVec 32 := 128#32
  let v104 : BitVec 32 := Scalar.muli v103 c128_i32_89
  ![v104.toNat]
def k0_off4 (i : grid0.Coords) (k0_t1 : Fin k0_t1_loop.trips) (c0_i32_38 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_14 : BitVec 32 := 0#32
  let c1_i32 : BitVec 32 := 1#32
  let arg22 : BitVec 32 := Scf.iv c0_i32_14 c1_i32 k0_t1
  let c5_i32 : BitVec 32 := 5#32
  let v40 : BitVec 32 := Scalar.muli arg22 c5_i32
  let v44 : BitVec 32 := Scalar.addi v40 c0_i32_38
  let c128_i32_43 : BitVec 32 := 128#32
  let v51 : BitVec 32 := Scalar.muli v44 c128_i32_43
  let v52 : BitVec 32 := Scalar.addi v2 v51
  let c0_i32_44 : BitVec 32 := 0#32
  ![v52.toNat, 0]
def k0_cond4 (k0_t1 : Fin k0_t1_loop.trips) : BitVec 1 :=
  let c0_i32_14 : BitVec 32 := 0#32
  let c1_i32 : BitVec 32 := 1#32
  let arg22 : BitVec 32 := Scf.iv c0_i32_14 c1_i32 k0_t1
  let c5_i32 : BitVec 32 := 5#32
  let v40 : BitVec 32 := Scalar.muli arg22 c5_i32
  let c1_i32_46 : BitVec 32 := 1#32
  let v55 : BitVec 32 := Scalar.addi v40 c1_i32_46
  let c3_i32_47 : BitVec 32 := 3#32
  let v56 : BitVec 32 := Scalar.addi v55 c3_i32_47
  let c50_i32_48 : BitVec 32 := 50#32
  let v57 : BitVec 1 := Scalar.cmpi .slt v56 c50_i32_48
  let v58 : BitVec 32 := Scalar.extui v57
  let c0_i32_49 : BitVec 32 := 0#32
  let v59 : BitVec 1 := Scalar.cmpi .ne v58 c0_i32_49
  v59

def k0_off5 (k0_t1 : Fin k0_t1_loop.trips) : Fin 1 → Nat :=
  let c0_i32_14 : BitVec 32 := 0#32
  let c1_i32 : BitVec 32 := 1#32
  let arg22 : BitVec 32 := Scf.iv c0_i32_14 c1_i32 k0_t1
  let c5_i32 : BitVec 32 := 5#32
  let v40 : BitVec 32 := Scalar.muli arg22 c5_i32
  let c1_i32_46 : BitVec 32 := 1#32
  let v55 : BitVec 32 := Scalar.addi v40 c1_i32_46
  let c3_i32_88 : BitVec 32 := 3#32
  let v103 : BitVec 32 := Scalar.addi v55 c3_i32_88
  let c128_i32_89 : BitVec 32 := 128#32
  let v104 : BitVec 32 := Scalar.muli v103 c128_i32_89
  ![v104.toNat]
def k0_cond6 (k0_t1 : Fin k0_t1_loop.trips) : BitVec 1 :=
  let c0_i32_14 : BitVec 32 := 0#32
  let c1_i32 : BitVec 32 := 1#32
  let arg22 : BitVec 32 := Scf.iv c0_i32_14 c1_i32 k0_t1
  let c5_i32 : BitVec 32 := 5#32
  let v40 : BitVec 32 := Scalar.muli arg22 c5_i32
  let c2_i32_56 : BitVec 32 := 2#32
  let v66 : BitVec 32 := Scalar.addi v40 c2_i32_56
  let c3_i32_57 : BitVec 32 := 3#32
  let v67 : BitVec 32 := Scalar.addi v66 c3_i32_57
  let c50_i32_58 : BitVec 32 := 50#32
  let v68 : BitVec 1 := Scalar.cmpi .slt v67 c50_i32_58
  let v69 : BitVec 32 := Scalar.extui v68
  let c0_i32_59 : BitVec 32 := 0#32
  let v70 : BitVec 1 := Scalar.cmpi .ne v69 c0_i32_59
  v70

def k0_off6 (k0_t1 : Fin k0_t1_loop.trips) : Fin 1 → Nat :=
  let c0_i32_14 : BitVec 32 := 0#32
  let c1_i32 : BitVec 32 := 1#32
  let arg22 : BitVec 32 := Scf.iv c0_i32_14 c1_i32 k0_t1
  let c5_i32 : BitVec 32 := 5#32
  let v40 : BitVec 32 := Scalar.muli arg22 c5_i32
  let c2_i32_56 : BitVec 32 := 2#32
  let v66 : BitVec 32 := Scalar.addi v40 c2_i32_56
  let c3_i32_88 : BitVec 32 := 3#32
  let v103 : BitVec 32 := Scalar.addi v66 c3_i32_88
  let c128_i32_89 : BitVec 32 := 128#32
  let v104 : BitVec 32 := Scalar.muli v103 c128_i32_89
  ![v104.toNat]
def k0_cond8 (k0_t1 : Fin k0_t1_loop.trips) : BitVec 1 :=
  let c0_i32_14 : BitVec 32 := 0#32
  let c1_i32 : BitVec 32 := 1#32
  let arg22 : BitVec 32 := Scf.iv c0_i32_14 c1_i32 k0_t1
  let c5_i32 : BitVec 32 := 5#32
  let v40 : BitVec 32 := Scalar.muli arg22 c5_i32
  let c3_i32_66 : BitVec 32 := 3#32
  let v77 : BitVec 32 := Scalar.addi v40 c3_i32_66
  let c3_i32_67 : BitVec 32 := 3#32
  let v78 : BitVec 32 := Scalar.addi v77 c3_i32_67
  let c50_i32_68 : BitVec 32 := 50#32
  let v79 : BitVec 1 := Scalar.cmpi .slt v78 c50_i32_68
  let v80 : BitVec 32 := Scalar.extui v79
  let c0_i32_69 : BitVec 32 := 0#32
  let v81 : BitVec 1 := Scalar.cmpi .ne v80 c0_i32_69
  v81

def k0_off7 (k0_t1 : Fin k0_t1_loop.trips) : Fin 1 → Nat :=
  let c0_i32_14 : BitVec 32 := 0#32
  let c1_i32 : BitVec 32 := 1#32
  let arg22 : BitVec 32 := Scf.iv c0_i32_14 c1_i32 k0_t1
  let c5_i32 : BitVec 32 := 5#32
  let v40 : BitVec 32 := Scalar.muli arg22 c5_i32
  let c3_i32_66 : BitVec 32 := 3#32
  let v77 : BitVec 32 := Scalar.addi v40 c3_i32_66
  let c3_i32_88 : BitVec 32 := 3#32
  let v103 : BitVec 32 := Scalar.addi v77 c3_i32_88
  let c128_i32_89 : BitVec 32 := 128#32
  let v104 : BitVec 32 := Scalar.muli v103 c128_i32_89
  ![v104.toNat]
def k0_cond10 (k0_t1 : Fin k0_t1_loop.trips) : BitVec 1 :=
  let c0_i32_14 : BitVec 32 := 0#32
  let c1_i32 : BitVec 32 := 1#32
  let arg22 : BitVec 32 := Scf.iv c0_i32_14 c1_i32 k0_t1
  let c5_i32 : BitVec 32 := 5#32
  let v40 : BitVec 32 := Scalar.muli arg22 c5_i32
  let c4_i32 : BitVec 32 := 4#32
  let v88 : BitVec 32 := Scalar.addi v40 c4_i32
  let c3_i32_76 : BitVec 32 := 3#32
  let v89 : BitVec 32 := Scalar.addi v88 c3_i32_76
  let c50_i32_77 : BitVec 32 := 50#32
  let v90 : BitVec 1 := Scalar.cmpi .slt v89 c50_i32_77
  let v91 : BitVec 32 := Scalar.extui v90
  let c0_i32_78 : BitVec 32 := 0#32
  let v92 : BitVec 1 := Scalar.cmpi .ne v91 c0_i32_78
  v92

def k0_off8 (k0_t1 : Fin k0_t1_loop.trips) : Fin 1 → Nat :=
  let c0_i32_14 : BitVec 32 := 0#32
  let c1_i32 : BitVec 32 := 1#32
  let arg22 : BitVec 32 := Scf.iv c0_i32_14 c1_i32 k0_t1
  let c5_i32 : BitVec 32 := 5#32
  let v40 : BitVec 32 := Scalar.muli arg22 c5_i32
  let c4_i32 : BitVec 32 := 4#32
  let v88 : BitVec 32 := Scalar.addi v40 c4_i32
  let c3_i32_88 : BitVec 32 := 3#32
  let v103 : BitVec 32 := Scalar.addi v88 c3_i32_88
  let c128_i32_89 : BitVec 32 := 128#32
  let v104 : BitVec 32 := Scalar.muli v103 c128_i32_89
  ![v104.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S100000x128, .f32⟩
  | .hbm, ⟨2, _⟩ => ⟨S_, .i32⟩
  | .hbm, ⟨3, _⟩ => ⟨S1024x200, .i32⟩
  | .hbm, ⟨4, _⟩ => ⟨S1024x200, .i1⟩
  | .hbm, ⟨5, _⟩ => ⟨S_, .i32⟩
  | .hbm, ⟨6, _⟩ => ⟨S1024x200, .i32⟩
  | .hbm, ⟨7, _⟩ => ⟨S1024x200, .i32⟩
  | .hbm, ⟨8, _⟩ => ⟨S1024x200, .i32⟩
  | .hbm, ⟨9, _⟩ => ⟨S1024x200x1, .i32⟩
  | .hbm, ⟨10, _⟩ => ⟨S1, .i32⟩
  | .hbm, ⟨11, _⟩ => ⟨S_, .i32⟩
  | .hbm, ⟨12, _⟩ => ⟨S1024x200x1, .i32⟩
  | .hbm, ⟨13, _⟩ => ⟨S1024x200x1, .i1⟩
  | .hbm, ⟨14, _⟩ => ⟨S1x1x1, .i32⟩
  | .hbm, ⟨15, _⟩ => ⟨S1024x200x1, .i32⟩
  | .hbm, ⟨16, _⟩ => ⟨S1024x200x1, .i1⟩
  | .hbm, ⟨17, _⟩ => ⟨S1024x200x1, .i1⟩
  | .hbm, ⟨18, _⟩ => ⟨S_, .i1⟩
  | .hbm, ⟨19, _⟩ => ⟨S1024x200, .i1⟩
  | .hbm, ⟨20, _⟩ => ⟨S1024x200x128, .f32⟩
  | .hbm, ⟨21, _⟩ => ⟨S1024x200x128, .i1⟩
  | .hbm, ⟨22, _⟩ => ⟨S_, .f32⟩
  | .hbm, ⟨23, _⟩ => ⟨S1024x200x128, .f32⟩
  | .hbm, ⟨24, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Common.lean ====
/-
  What every module of this proof speaks of: the program as the SparseCore launch theorem sees it, the resources'
  algebra, the arrays and a tile's buffers by name, the lookup as a plain function, and BANDS — the elements of an
  array whose coordinate on one axis lies in an interval. A tile's copies all cover bands (128 or 1280 list entries,
  128 rows of the result), so a band is how this proof says what a tile holds, and cutting a band in two or joining two
  is how an element set is handed to a copy and taken back.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.StableHlo.Predicate
public import Idealize.ShloMosaic.Lib.Pipeline.Kit
public import Idealize.ShloMosaic.Lib.Tactic
public import Idealize.ShloMosaic.Lib.ShareLeaves
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay)
open Idealize.ShloMosaic.StableHlo.Predicate (ij ij_eta)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and a tile's buffers -/

/-- The positions as @main is given them, 1024 by 200. -/
abbrev posLoc (d : Dev nD) : Loc nD τ sig := (SparseCore.T d).loc main_arg0
/-- The table: 100000 rows of 128. -/
abbrev tabLoc (d : Dev nD) : Loc nD τ sig := (SparseCore.T d).loc main_arg1
/-- The positions as the kernel is given them, one list of 204800. -/
abbrev idxLoc (d : Dev nD) : Loc nD τ sig := (SparseCore.T d).loc main_v0
/-- The kernel's result: row `r` the table's row at position `r`. -/
abbrev outLoc (d : Dev nD) : Loc nD τ sig := (SparseCore.T d).loc main_v1
/-- @main's result, 1024 by 200 rows. -/
abbrev resLoc (d : Dev nD) : Loc nD τ sig := (SparseCore.T d).loc main_v2

abbrev tabV : Memref sig .scVector .hbm S100000x128 .f32 := Memref.whole main_arg1_scv
abbrev idxV : Memref sig .scVector .hbm S204800 .i32 := Memref.whole main_v0_scv
abbrev outV : Memref sig .scVector .hbm S204800x128 .f32 := Memref.whole main_v1_scv
/-- The tile's copy of its 6400 positions. -/
abbrev lstV : Memref sig .scVector .vmem S6400 .i32 := Memref.whole cc0_scratch0

/-- The whole table, as every gather addresses it. -/
abbrev tabAll : Memref sig .scVector .hbm S100000x128 .f32 :=
  tabV.slice (Rect.unit (s := S100000x128) ![0, 0] S100000x128.size inb_S100000x128_S100000x128_0_0) (fun _ => rfl)
/-- The result rows at which every wait for a write-out is spelled: only their size matters to it. -/
abbrev outWait : Memref sig .scVector .hbm S128x128 .f32 :=
  outV.slice (Rect.unit (s := S204800x128) ![0, 0] S128x128.size inb_S204800x128_S128x128_0_0) (fun _ => rfl)

abbrev cV (L : grid0.Coords) : Fin τ.nSC := (L 0).castLE hcore0
abbrev jV (L : grid0.Coords) : Fin τ.nSub := (L 1).castLE hsub0
/-- The thread of tile `L 1` of SparseCore `L 0`. -/
abbrev thr (d : Dev nD) (L : grid0.Coords) : Thread nD τ := V d (cV L) (jV L)
abbrev lstLoc (d : Dev nD) (L : grid0.Coords) : Loc nD τ sig := (thr d L).loc cc0_scratch0

/-! ## Which positions a tile has -/

/-- The first of tile `L`'s 6400 positions. -/
def base (L : grid0.Coords) : ℕ := 12800 * (L 1).val + 6400 * (L 0).val

theorem base_le (L : grid0.Coords) : base L + 6400 ≤ 204800 := by
  have h0 : (L 0).val < 2 := (L 0).isLt
  have h1 : (L 1).val < 16 := (L 1).isLt
  unfold base; omega

/-! ## The lookup as a function -/

/-- The table row a position word names. -/
def rowAt (w : BitVec 32) : Fin 100000 := ⟨w.toNat % 100000, Nat.mod_lt _ (by decide)⟩

theorem rowAt_val {w : BitVec 32} (h : w.toNat < 100000) : (rowAt w).val = w.toNat := Nat.mod_eq_of_lt h

/-- Entry `n` of a list of `N`. -/
abbrev at1 {N : ℕ} (n : Fin N) : (⟨1, ![N]⟩ : Shape).Idx := fun | ⟨0, _⟩ => n

theorem at1_eta {N : ℕ} (x : (⟨1, ![N]⟩ : Shape).Idx) : at1 (x 0) = x := by
  funext a; match a with | ⟨0, _⟩ => rfl

/-- Row `r` of the result is the table's row at the `r`-th position. -/
def looked (tab : S100000x128.Idx → Elt F .f32) (ix : S204800.Idx → Elt F .i32) : S204800x128.Idx → Elt F .f32 :=
  fun y => tab (ij (rowAt (ix (at1 (y 0)))) (y 1))

/-- Tile `L`'s 6400 positions, as its own list. -/
def lst (L : grid0.Coords) (ix : S204800.Idx → Elt F .i32) : S6400.Idx → Elt F .i32 :=
  fun x => ix (at1 ⟨base L + (x 0).val, by have h : (x 0).val < 6400 := (x 0).isLt; have := base_le L; omega⟩)

/-- The 128 result rows of chunk `g` of tile `L` (`g` below 50), as a block of its own. -/
def chunk (L : grid0.Coords) (tab : S100000x128.Idx → Elt F .f32) (ix : S204800.Idx → Elt F .i32) (g : ℕ) :
    S128x128.Idx → Elt F .f32 :=
  fun j => looked tab ix (ij ⟨(base L + 128 * g + (j 0).val) % 204800, Nat.mod_lt _ (by decide)⟩ (j 1))

/-- Every position names a row of the table: what the proof asks of the positions, the certificate's precondition. -/
def InRange (ix : S204800.Idx → Elt F .i32) : Prop := ∀ x, (ix x).toNat < 100000

/-! ## Bands -/

/-- The elements of an array whose coordinate on axis `ax` is in `[a, b)`. -/
def band (s : Shape) (ax : Fin s.rank) (a b : ℕ) : Finset s.Idx :=
  Finset.univ.filter fun x => a ≤ (x ax).val ∧ (x ax).val < b

theorem mem_band {s : Shape} {ax : Fin s.rank} {a b : ℕ} {x : s.Idx} : x ∈ band s ax a b ↔ a ≤ (x ax).val ∧ (x ax).val < b := by
  simp [band]

theorem band_union {s : Shape} {ax : Fin s.rank} {a b c : ℕ} (hab : a ≤ b) (hbc : b ≤ c) :
    band s ax a c = band s ax a b ∪ band s ax b c := by
  ext x; simp only [Finset.mem_union, mem_band]; omega

theorem band_disjoint {s : Shape} {ax : Fin s.rank} {a b a' b' : ℕ} (h : b ≤ a' ∨ b' ≤ a) :
    Disjoint (band s ax a b) (band s ax a' b') :=
  Finset.disjoint_left.mpr fun x hx hx' => by rw [mem_band] at hx hx'; omega

theorem band_empty {s : Shape} {ax : Fin s.rank} {a b : ℕ} (h : b ≤ a) : band s ax a b = ∅ :=
  Finset.eq_empty_of_forall_notMem fun x hx => by rw [mem_band] at hx; omega

theorem band_univ {s : Shape} {ax : Fin s.rank} {b : ℕ} (h : s.size ax ≤ b) : band s ax 0 b = Finset.univ :=
  Finset.eq_univ_of_forall fun x => mem_band.mpr ⟨Nat.zero_le _, (x ax).isLt.trans_le h⟩

/-- A points-to over a band is one over each of the two bands a point between cuts it into. -/
theorem pts_cut {ℓ : Loc nD τ sig} {ax : Fin ℓ.ty.shape.rank} {a b c : ℕ} {q : PosShare TreeShare} {f : Buf (Elt F) ℓ}
    (hab : a ≤ b) (hbc : b ≤ c) :
    (ℓ ↦[band ℓ.ty.shape ax a c]{q} f : sProp 𝕄)
      ⊣⊢ iprop((ℓ ↦[band ℓ.ty.shape ax a b]{q} f) ∗ ℓ ↦[band ℓ.ty.shape ax b c]{q} f) := by
  rw [band_union hab hbc]; exact pointsTo_union (band_disjoint (Or.inl le_rfl))

/-! ## The slices a tile names are bands -/

/-- A run of a list from `a` is a band. -/
theorem run_set {N n a : ℕ} (h : ∀ x, (![a] : Fin 1 → ℕ) x + (![n] : Fin 1 → ℕ) x ≤ (⟨1, ![N]⟩ : Shape).size x) :
    (Rect.unit (s := ⟨1, ![N]⟩) ![a] ![n] h).set = band ⟨1, ![N]⟩ 0 a (a + n) := by
  ext x
  rw [Rect.mem_set_unit, mem_band]
  exact ⟨fun H => H 0, fun H i => by match i with | ⟨0, _⟩ => exact H⟩

/-- A run of whole rows from row `a` is a band. -/
theorem rows_set {N M n a : ℕ} (h : ∀ x, (![a, 0] : Fin 2 → ℕ) x + (![n, M] : Fin 2 → ℕ) x ≤ (⟨2, ![N, M]⟩ : Shape).size x) :
    (Rect.unit (s := ⟨2, ![N, M]⟩) ![a, 0] ![n, M] h).set = band ⟨2, ![N, M]⟩ 0 a (a + n) := by
  ext x
  rw [Rect.mem_set_unit, mem_band]
  refine ⟨fun H => H 0, fun H i => ?_⟩
  match i with
  | ⟨0, _⟩ => exact H
  | ⟨1, _⟩ => exact ⟨Nat.zero_le _, by have h1 : (x 1).val < M := (x 1).isLt; show (x 1).val < 0 + M; omega⟩

/-- 128 list entries from entry `a`, as a gather's list names them. -/
abbrev lstRun (a : ℕ) (h : ∀ x, (![a] : Fin 1 → ℕ) x + S128.size x ≤ S6400.size x) : Memref sig .scVector .vmem S128 .i32 :=
  lstV.slice (Rect.unit (s := S6400) ![a] S128.size h) (fun _ => rfl)
/-- 1280 list entries from entry `a`, as a copy of positions writes them. -/
abbrev lstPart (a : ℕ) (h : ∀ x, (![a] : Fin 1 → ℕ) x + S1280.size x ≤ S6400.size x) : Memref sig .scVector .vmem S1280 .i32 :=
  lstV.slice (Rect.unit (s := S6400) ![a] S1280.size h) (fun _ => rfl)
/-- 1280 positions from position `a`, as a copy of positions reads them. -/
abbrev idxPart (a : ℕ) (h : ∀ x, (![a] : Fin 1 → ℕ) x + S1280.size x ≤ S204800.size x) : Memref sig .scVector .hbm S1280 .i32 :=
  idxV.slice (Rect.unit (s := S204800) ![a] S1280.size h) (fun _ => rfl)
/-- 128 result rows from row `a`, as a write-out writes them. -/
abbrev outRows (a : ℕ) (h : ∀ x, (![a, 0] : Fin 2 → ℕ) x + S128x128.size x ≤ S204800x128.size x) : Memref sig .scVector .hbm S128x128 .f32 :=
  outV.slice (Rect.unit (s := S204800x128) ![a, 0] S128x128.size h) (fun _ => rfl)

theorem set_lstRun (a : ℕ) (h) : (lstRun a h).view.set = band S6400 0 a (a + 128) :=
  (View.set_slice_whole _ _).trans (run_set h)
theorem set_lstPart (a : ℕ) (h) : (lstPart a h).view.set = band S6400 0 a (a + 1280) :=
  (View.set_slice_whole _ _).trans (run_set h)
theorem set_idxPart (a : ℕ) (h) : (idxPart a h).view.set = band S204800 0 a (a + 1280) :=
  (View.set_slice_whole _ _).trans (run_set h)
theorem set_outRows (a : ℕ) (h) : (outRows a h).view.set = band S204800x128 0 a (a + 128) :=
  (View.set_slice_whole _ _).trans (rows_set h)
theorem set_tabAll : tabAll.view.set = Finset.univ :=
  (View.set_slice_whole _ _).trans ((rows_set (N := 100000) (M := 128) (n := 100000) (a := 0) _).trans (band_univ le_rfl))

end Cert.Proof.Lookup

end
-- ==== Proof.Values.lean ====
/-
  The values the kernel's copies move: what a read of the list, of the table and of the result's rows is, what the gather
  of one chunk's 128 rows brings, and that writing them out leaves the result there.
-/
module

public import proofs.«01_k».proof.Proof.Common

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay)
open Idealize.ShloMosaic.StableHlo.Predicate (ij ij_eta)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the steps' reads and writes are -/

/-- Entry `x` of a run of the list is the list's entry `a + x`. -/
theorem read_lstRun (a : ℕ) (h) (f : S6400.Idx → Elt F .i32) (x : S128.Idx) :
    (lstRun a h).view.read (Elt F) f x = f (at1 ⟨a + (x 0).val, by
      have h0 : a + 128 ≤ 6400 := h 0
      have h1 : (x 0).val < 128 := (x 0).isLt; omega⟩) := by
  rw [View.read_apply]
  refine (cast_eq _ _).trans (congrArg f ?_)
  funext b
  match b with
  | ⟨0, _⟩ => exact Fin.ext ((Rect.emb_apply _ _ _).trans (by show a + 1 * (x 0).val = a + (x 0).val; omega))

theorem read_tabAll (f : S100000x128.Idx → Elt F .f32) : tabAll.view.read (Elt F) f = f := by
  funext x
  rw [View.read_apply]
  refine (cast_eq _ _).trans (congrArg f ?_)
  funext b
  match b with
  | ⟨0, _⟩ => exact Fin.ext ((Rect.emb_apply _ _ _).trans (by show 0 + 1 * (x 0).val = (x 0).val; omega))
  | ⟨1, _⟩ => exact Fin.ext ((Rect.emb_apply _ _ _).trans (by show 0 + 1 * (x 1).val = (x 1).val; omega))

/-- Element `j` of 128 result rows is the result's at row `a + j 0`. -/
theorem emb_outRows (a : ℕ) (h) (j : S128x128.Idx) :
    (outRows a h).view.emb j = (ij ⟨a + (j 0).val, by
      have h0 : a + 128 ≤ 204800 := h 0
      have h1 : (j 0).val < 128 := (j 0).isLt; omega⟩ (j 1) : S204800x128.Idx) := by
  funext b
  match b with
  | ⟨0, _⟩ => exact Fin.ext ((Rect.emb_apply _ _ _).trans (by show a + 1 * (j 0).val = a + (j 0).val; omega))
  | ⟨1, _⟩ => exact Fin.ext ((Rect.emb_apply _ _ _).trans (by show 0 + 1 * (j 1).val = (j 1).val; omega))

section Values

variable (L : grid0.Coords) (tab : S100000x128.Idx → Elt F .f32) (ix : S204800.Idx → Elt F .i32)

/-- Chunk `g`'s 128 list entries name rows of the table. -/
theorem lst_inRange (hin : InRange ix) (a : ℕ) (h) :
    ∀ x, ((lstRun a h).view.read (Elt F) (lst L ix) x).toNat < S100000x128.size gathers_S100000x128_S128x128.axis := by
  intro x; rw [read_lstRun]; exact hin _

/-- What the gather of chunk `g` brings is the chunk's 128 result rows. -/
theorem gathered (hin : InRange ix) {g : ℕ} (hg : g < 50) (h) :
    SparseCore.gatherPayload gathers_S100000x128_S128x128 (tabAll.view.read (Elt F) tab)
        (SparseCore.rows ((lstRun (128 * g) h).view.read (Elt F) (lst L ix)) rfl (lst_inRange L ix hin _ h))
      = chunk L tab ix g := by
  funext j
  have hj : (j 0).val < 128 := (j 0).isLt
  have hb := base_le L
  rw [read_tabAll]
  show tab _ = tab _
  refine congrArg tab ?_
  funext b
  match b with
  | ⟨0, _⟩ =>
    refine Fin.ext ((congrArg Fin.val (Shape.Gathers.idx_axis gathers_S100000x128_S128x128 _ j)).trans ?_)
    show ((lstRun (128 * g) h).view.read (Elt F) (lst L ix) _).toNat = (rowAt _).val
    rw [rowAt_val (hin _), read_lstRun]
    show (ix _).toNat = (ix _).toNat
    refine congrArg (fun x => (ix x).toNat) (congrArg at1 (Fin.ext ?_))
    show base L + (128 * g + (S128.rowMajor.symm ((j 0).cast _) 0).val) = (base L + 128 * g + (j 0).val) % 204800
    rw [Nat.mod_eq_of_lt (by omega), ← Shape.rowMajor_val_one, Equiv.apply_symm_apply]
    show base L + (128 * g + (j 0).val) = _
    omega
  | ⟨1, h1⟩ => exact Fin.ext (Shape.Gathers.idx_of_ne gathers_S100000x128_S128x128 _ j ⟨1, h1⟩ Nat.one_ne_zero)

/-- 128 result rows written with chunk `g` are the result there. -/
theorem written (d : Dev nD) {g : ℕ} (hg : g < 50) {h}
    (f : Buf (Elt F) ((outRows (base L + 128 * g) h).view.loc (thr d L))) :
    ((outRows (base L + 128 * g) h).view.loc (thr d L) ↦[(outRows (base L + 128 * g) h).view.set]{fullShare}
        (outRows (base L + 128 * g) h).view.write (Elt F) f (chunk L tab ix g) Finset.univ : sProp 𝕄)
      = outLoc d ↦[band S204800x128 0 (base L + 128 * g) (base L + 128 * g + 128)]{fullShare} looked tab ix := by
  rw [← set_outRows _ h]
  refine pointsTo_congr fun i hi => ?_
  obtain ⟨j, -, rfl⟩ := Finset.mem_map.mp hi
  have hj : (j 0).val < 128 := (j 0).isLt
  have hb := base_le L
  rw [View.write_emb_of_mem _ _ (Finset.mem_univ _), emb_outRows]
  refine (cast_eq _ _).trans (congrArg (looked tab ix) ?_)
  exact congrArg (fun n => (ij n (j 1) : S204800x128.Idx)) (Fin.ext (Nat.mod_eq_of_lt (by omega)))

end Values
end Cert.Proof.Lookup

end
-- ==== Proof.Steps.lean ====
/-
  The kernel's two steps, each stated and proved once for any of the five row buffers and any chunk. Chunk `g` of a
  tile's 50 goes through two of them: ISSUE waits until the row buffer's last write-out is done (when there was one) and
  starts the gather of the chunk's 128 rows; FINISH waits for that gather and starts the write-out. What a row buffer is
  at between steps — free, being gathered into, being written out — is the buffer's STATE here, with the values in it.
-/
module

public import proofs.«01_k».proof.Proof.Values

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay)
open Idealize.ShloMosaic.StableHlo.Predicate (ij ij_eta)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A row buffer and its two semaphores -/

/-- The bytes one chunk's copy credits. -/
abbrev rowsN : ℕ := outWait.view.dmaCredit

/-- A row buffer, the semaphore its gathers signal and the one its write-outs signal. -/
structure Slot where
  r : Memref sig .scVector .vmem S128x128 .f32
  whole : r.IsWhole
  credit : r.view.dmaCredit = rowsN
  credits : ∑ j, (r.slice (S128x128.rowRect gathers_S100000x128_S128x128.axis' j) (S128x128.stride_rowRect gathers_S100000x128_S128x128.axis' j)).view.dmaCredit = rowsN
  gs : DmaSem sig
  ws : DmaSem sig

/-- Every row buffer's rows credit, together, what a chunk does. -/
theorem credits_whole (r : Memref sig .scVector .vmem S128x128 .f32)
    (h : ∀ g : S100000x128.Gathers 0 S128x128, ∑ j, (r.slice (S128x128.rowRect g.axis' j) (S128x128.stride_rowRect g.axis' j)).view.dmaCredit = rowsN) :
    ∑ j, (r.slice (S128x128.rowRect gathers_S100000x128_S128x128.axis' j) (S128x128.stride_rowRect gathers_S100000x128_S128x128.axis' j)).view.dmaCredit = rowsN := h _

def slot0 : Slot := ⟨Memref.whole cc0_scratch1, Memref.isWhole_whole _, rfl, credits_whole _ (by decide +kernel), cc0_scratch6.sem, cc0_scratch11.sem⟩
def slot1 : Slot := ⟨Memref.whole cc0_scratch2, Memref.isWhole_whole _, rfl, credits_whole _ (by decide +kernel), cc0_scratch7.sem, cc0_scratch12.sem⟩
def slot2 : Slot := ⟨Memref.whole cc0_scratch3, Memref.isWhole_whole _, rfl, credits_whole _ (by decide +kernel), cc0_scratch8.sem, cc0_scratch13.sem⟩
def slot3 : Slot := ⟨Memref.whole cc0_scratch4, Memref.isWhole_whole _, rfl, credits_whole _ (by decide +kernel), cc0_scratch9.sem, cc0_scratch14.sem⟩
def slot4 : Slot := ⟨Memref.whole cc0_scratch5, Memref.isWhole_whole _, rfl, credits_whole _ (by decide +kernel), cc0_scratch10.sem, cc0_scratch15.sem⟩

/-! ## The steps as programs -/

abbrev TileProg (F : FTy → Type) (L : grid0.Coords) (α : Type) : Type 1 :=
  Prog (TpuEff nD τ sig (Elt F) Λ₀ (.scVector (cV L) (jV L))) α

section Programs

variable {α : Type} (L : grid0.Coords)

/-- Start the gather of the rows the 128 list entries at `off` name. -/
def gatherP (off : Fin 1 → ℕ) (h : ∀ x, off x + S128.size x ≤ S6400.size x) (s : Slot) (k : TileProg F L α) : TileProg F L α :=
  SparseCore.enqueueIndirectGather rfl tabAll s.r gathers_S100000x128_S128x128
    (lstV.slice (Rect.unit (s := S6400) off S128.size h) (fun _ => rfl)) rfl s.gs (View.wordExact_bits rfl) rfl (Or.inl rfl)
    (by decide) >>= fun _ => k

/-- Wait for the write-out of the row buffer. -/
def freeP (s : Slot) (k : TileProg F L α) : TileProg F L α :=
  Prog.lift (.waitDma2 s.ws s.r outWait s.whole.wordExact (View.wordExact_bits rfl)) >>= fun _ => k

/-- ISSUE, when `c` says there is such a chunk; the wait first when `c'` says there was a write-out. -/
def issueP (c c' : BitVec 1) (off : Fin 1 → ℕ) (h : c = 1#1 → ∀ x, off x + S128.size x ≤ S6400.size x) (s : Slot)
    (k : TileProg F L α) : TileProg F L α :=
  if h1 : c = 1#1 then
    if _h2 : c' = 1#1 then freeP L s (gatherP L off (h h1) s k) else gatherP L off (h h1) s k
  else k

/-- FINISH. -/
def finishP (off : Fin 2 → ℕ) (h : ∀ x, off x + S128x128.size x ≤ S204800x128.size x) (s : Slot) (k : TileProg F L α) :
    TileProg F L α :=
  SparseCore.waitIndirectGather s.gs tabAll s.r (View.wordExact_bits rfl) s.whole.wordExact >>= fun _ =>
    Prog.lift (.enqueueDma s.r (.here (outV.slice (Rect.unit (s := S204800x128) off S128x128.size h) (fun _ => rfl))) (.dma s.ws)
      s.whole.wordExact (View.wordExact_bits rfl) ⟨Or.inl rfl, trivial⟩) >>= fun _ => k

end Programs

/-! ## The states -/

section States

variable (d : Dev nD) (L : grid0.Coords) (tab : S100000x128.Idx → Elt F .f32) (ix : S204800.Idx → Elt F .i32)
  (O : CellTallies nD τ sig (HIx 1)) (W : Waits sig (HIx 1))

/-- What the tile owes and has waited for, and that its waits may be. -/
def Owe : sProp 𝕄 :=
  iprop(Transfers.MayWaits (thr d L) (default : HIx 1) O ∗ ∃ W', ⌜∀ p ∈ W', p ∈ W ∨ p.2 = none⌝ ∗ owes (thr d L) O W')

/-- The list entries from `a` to `b`, at the tile's positions. -/
abbrev lstPts (a b : ℕ) : sProp 𝕄 := lstLoc d L ↦[band S6400 0 a b]{fullShare} lst L ix
/-- The tile's result rows from its `a`-th to its `b`-th, at the looked-up rows. -/
abbrev donePts (a b : ℕ) : sProp 𝕄 := outLoc d ↦[band S204800x128 0 (base L + a) (base L + b)]{fullShare} looked tab ix
/-- The same rows at what they were. -/
abbrev todoPts (o : Buf (Elt F) (outLoc d)) (a b : ℕ) : sProp 𝕄 := outLoc d ↦[band S204800x128 0 (base L + a) (base L + b)]{fullShare} o
/-- A row buffer at some contents. -/
abbrev someRows (s : Slot) : sProp 𝕄 := iprop(∃ f, s.r.view.loc (thr d L) ↦[s.r.view.set]{fullShare} f)
abbrev semZero (sm : DmaSem sig) : sProp 𝕄 := semVal (thr d L, SemLoc.dma sm) 0
abbrev InFlight (sm : DmaSem sig) (N : ℕ) (E : sProp 𝕄) : sProp 𝕄 :=
  Transfers.Flight (countersEmb (nD := nD) (τ := τ) (sig := sig) (Ix := HIx 1) (Val := Elt F) (Name := ℕ) (Lvl := ℕ) (U := UU))
    (thr d L) (.dma sm) (default : HIx 1) N E

/-- A row buffer no copy uses, its share `q` of the table beside it. -/
def Free (s : Slot) (q : PosShare TreeShare) : sProp 𝕄 :=
  iprop(someRows d L s ∗ semZero d L s.gs ∗ semZero d L s.ws ∗ tabLoc d ↦{q} tab)

/-- A row buffer chunk `g` is being gathered into: at the wait the buffer is at the chunk's rows. -/
def Gathering (s : Slot) (q : PosShare TreeShare) (g : ℕ) : sProp 𝕄 :=
  iprop(InFlight d L s.gs rowsN iprop((∃ f, ⌜s.r.view.read (Elt F) f = chunk L tab ix g⌝ ∗ s.r.view.loc (thr d L) ↦[s.r.view.set]{fullShare} f)
        ∗ (tabLoc d ↦{q} tab) ∗ lstPts d L ix (128 * g) (128 * g + 128))
      ∗ semZero d L s.ws)

/-- A row buffer chunk `g` is being written out of: at the wait the chunk's result rows are looked up. -/
def Writing (s : Slot) (q : PosShare TreeShare) (g : ℕ) : sProp 𝕄 :=
  iprop(InFlight d L s.ws rowsN iprop(donePts d L tab ix (128 * g) (128 * g + 128) ∗ someRows d L s)
      ∗ semZero d L s.gs ∗ tabLoc d ↦{q} tab)

/-- A row buffer before chunk `g`'s ISSUE: chunk `g - 5` is being written out of it, or it is free yet. -/
def Before (s : Slot) (q : PosShare TreeShare) (g : ℕ) : sProp 𝕄 :=
  if g < 5 then Free d L tab s q else Writing d L tab ix s q (g - 5)

/-- A row buffer after chunk `g`'s ISSUE, when there is such a chunk. -/
def After (s : Slot) (q : PosShare TreeShare) (g : ℕ) : sProp 𝕄 :=
  if g < 50 then Gathering d L tab ix s q g else Before d L tab ix s q g

/-- How many result rows are known looked up once chunk `g` is issued. -/
def doneTo (g : ℕ) : ℕ := 128 * (min g 50 - 5)

/-! ## The steps -/

variable {d L tab ix O W}
variable [FloatOps F] {α : Type}

abbrev wpT (d : Dev nD) (L : grid0.Coords) (p : TileProg F L α) (Q : α → sProp 𝕄) : sProp 𝕄 :=
  wp frame (wpE (defs₀ (F := F)) 𝒱₀ (thr d L) none) Set.univ p Q

/-- A wait for one copy: what it delivers, its semaphore at zero again. -/
theorem wait_step {sp sp' : Space} {s s' : Shape} {e e' : EltTy} {sm : DmaSem sig} {N : ℕ} {E : sProp 𝕄}
    {srcw : Memref sig .scVector sp' s' e'} {dstw : Memref sig .scVector sp s e}
    {hsrc : srcw.view.WordExact} {hdst : dstw.view.WordExact} (hN : dstw.view.dmaCredit = N) {k : TileProg F L α} {Q : α → sProp 𝕄} :
    iprop(InFlight d L sm N E ∗ Owe d L O W)
      ⊢ iprop((iprop(E ∗ semZero d L sm ∗ Owe d L O W) -∗ wpT d L k Q)
          -∗ wpT d L (Prog.op (.waitDma2 sm srcw dstw hsrc hdst) fun _ => k) Q) := by
  unfold Owe
  iintro ⟨HF, #Hmw, %W', %hW, HO⟩ Hk
  iapply (Transfers.wp_waitLocalO countersEmb 𝒱₀ (thr d L) none (default : HIx 1) hN) $$ [HF HO]
  · isplitl [HF]; · iexact HF
    isplitl [HO]; · iexact HO
    iapply (Transfers.MayWaits.elim (SemLoc.dma sm)) $$ Hmw
  iintro ⟨HE, Hs, HO⟩
  iapply Hk
  isplitl [HE]; · iexact HE
  isplitl [Hs]; · iexact Hs
  isplitr; · iexact Hmw
  iexists _; isplitr
  swap; · iexact HO
  ipureintro; intro p hp
  rcases Finset.mem_insert.mp hp with rfl | hp
  · exact .inr rfl
  · exact hW p hp

/-- The wait for chunk `g`'s write-out. -/
theorem free_step {s : Slot} {q : PosShare TreeShare} {g : ℕ} {k : TileProg F L α} {Q : α → sProp 𝕄} :
    iprop(Writing d L tab ix s q g ∗ donePts d L tab ix 0 (128 * g) ∗ Owe d L O W)
      ⊢ iprop((iprop(Free d L tab s q ∗ donePts d L tab ix 0 (128 * g + 128) ∗ Owe d L O W) -∗ wpT d L k Q)
          -∗ wpT d L (freeP L s k) Q) := by
  unfold Writing freeP Free
  iintro ⟨⟨HF, Hg, Ht⟩, Hd, HO⟩ Hk
  iapply (wait_step (sm := s.ws) rfl) $$ [HF HO]
  · isplitl [HF]; · iexact HF
    iexact HO
  iintro ⟨⟨Hd', Hr⟩, Hs, HO⟩
  iapply Hk
  isplitl [Hr Hs Hg Ht]
  · isplitl [Hr]; · iexact Hr
    isplitl [Hg]; · iexact Hg
    isplitl [Hs]; · iexact Hs
    iexact Ht
  isplitr [HO]
  · iapply (pts_cut (ℓ := outLoc d) (ax := 0) (Nat.le_add_right _ _) (Nat.add_le_add_left (Nat.le_add_right _ _) _)).2
    isplitl [Hd]; · iexact Hd
    iexact Hd'
  iexact HO

/-- The start of chunk `g`'s gather. -/
theorem gather_step (hin : InRange ix) {s : Slot} {q : PosShare TreeShare} {g E : ℕ} (hg : g < 50) (hE : 128 * g + 128 ≤ E) {off : Fin 1 → ℕ}
    (hoff : off = ![128 * g]) {h : ∀ x, off x + S128.size x ≤ S6400.size x} {k : TileProg F L α} {Q : α → sProp 𝕄} :
    iprop(Free d L tab s q ∗ lstPts d L ix (128 * g) E)
      ⊢ iprop((iprop(Gathering d L tab ix s q g ∗ lstPts d L ix (128 * g + 128) E) -∗ wpT d L k Q)
          -∗ wpT d L (gatherP L off h s k) Q) := by
  subst hoff
  unfold Free Gathering gatherP
  iintro ⟨⟨⟨%f, Hr⟩, Hg, Hw, Ht⟩, Hl⟩ Hk
  ihave Hl2 := (pts_cut (ℓ := lstLoc d L) (ax := 0) (Nat.le_add_right _ 128) hE).1 $$ Hl
  icases Hl2 with ⟨Hl, Hl2⟩
  iapply (SparseCore.wp_indirectGatherLocal countersEmb 𝒱₀ (thr d L) none (hg := gathers_S100000x128_S128x128) (default : HIx 1)
    rowsN s.credits (by decide) (lst_inRange L ix hin _ h)) $$ [Ht Hr Hl Hg]
  · isplitl [Ht]; · rw [set_tabAll]; iexact Ht
    isplitl [Hr]; · iexact Hr
    isplitl [Hl]; · rw [set_lstRun]; iexact Hl
    iexact Hg
  iintro HF
  iapply Hk
  isplitr [Hl2]
  swap; · iexact Hl2
  isplitl [HF]
  swap; · iexact Hw
  iapply (Transfers.Flight_mono _) $$ HF
  rw [set_tabAll, set_lstRun]
  iintro ⟨Hr, Ht, Hl⟩
  isplitl [Hr]
  · iexists _; isplitr
    swap; · iexact Hr
    ipureintro
    rw [View.read_write_univ]
    exact gathered L tab ix hin hg h
  isplitl [Ht]; · iexact Ht
  iexact Hl

/-- ISSUE of chunk `g`: `c` says there is such a chunk, `c'` that the row buffer's last write-out is still to be waited for. -/
theorem issue_step (hin : InRange ix) {s : Slot} {q : PosShare TreeShare} {g E : ℕ} {c c' : BitVec 1} (hc : c = 1#1 ↔ g < 50)
    (hc' : c' = 1#1 ↔ 5 ≤ g) (hE : g < 50 → 128 * g + 128 ≤ E) (hE' : E ≤ 6400) {off : Fin 1 → ℕ} (hoff : off = ![128 * g])
    {h : c = 1#1 → ∀ x, off x + S128.size x ≤ S6400.size x} {k : TileProg F L α} {Q : α → sProp 𝕄} :
    iprop(Before d L tab ix s q g ∗ lstPts d L ix (128 * g) E ∗ donePts d L tab ix 0 (doneTo g) ∗ Owe d L O W)
      ⊢ iprop((iprop(After d L tab ix s q g ∗ lstPts d L ix (128 * (g + 1)) E ∗ donePts d L tab ix 0 (doneTo (g + 1)) ∗ Owe d L O W)
            -∗ wpT d L k Q)
          -∗ wpT d L (issueP L c c' off h s k) Q) := by
  unfold issueP After
  by_cases hg : g < 50
  · rw [dif_pos (hc.mpr hg), if_pos hg]
    by_cases h5 : 5 ≤ g
    · have e1 : doneTo g = 128 * (g - 5) := by unfold doneTo; omega
      have e2 : doneTo (g + 1) = 128 * (g - 5) + 128 := by unfold doneTo; omega
      rw [dif_pos (hc'.mpr h5), Before, if_neg (by omega), e1, e2]
      iintro ⟨HB, Hl, Hd, HO⟩ Hk
      iapply free_step $$ [HB Hd HO]
      · isplitl [HB]; · iexact HB
        isplitl [Hd]; · iexact Hd
        iexact HO
      iintro ⟨HB, Hd, HO⟩
      iapply (gather_step hin hg (hE hg) hoff) $$ [HB Hl]
      · isplitl [HB]; · iexact HB
        iexact Hl
      iintro ⟨HB, Hl⟩
      iapply Hk
      isplitl [HB]; · iexact HB
      isplitl [Hl]; · iexact Hl
      isplitl [Hd]; · iexact Hd
      iexact HO
    · have e2 : doneTo (g + 1) = doneTo g := by unfold doneTo; omega
      rw [dif_neg (fun e => h5 (hc'.mp e)), Before, if_pos (by omega), e2]
      iintro ⟨HB, Hl, Hd, HO⟩ Hk
      iapply (gather_step hin hg (hE hg) hoff) $$ [HB Hl]
      · isplitl [HB]; · iexact HB
        iexact Hl
      iintro ⟨HB, Hl⟩
      iapply Hk
      isplitl [HB]; · iexact HB
      isplitl [Hl]; · iexact Hl
      isplitl [Hd]; · iexact Hd
      iexact HO
  · have e2 : doneTo (g + 1) = doneTo g := by unfold doneTo; omega
    rw [dif_neg (fun e => hg (hc.mp e)), if_neg hg, e2, lstPts, lstPts, band_empty (by omega : E ≤ 128 * g), band_empty (by omega : E ≤ 128 * (g + 1))]
    iintro HP Hk
    iapply Hk $$ HP

/-- FINISH of chunk `g`. -/
theorem finish_step {s : Slot} {q : PosShare TreeShare} {g : ℕ} (hg : g < 50) {o : Buf (Elt F) (outLoc d)} {off : Fin 2 → ℕ}
    (hoff : off = ![base L + 128 * g, 0]) {h : ∀ x, off x + S128x128.size x ≤ S204800x128.size x} {k : TileProg F L α}
    {Q : α → sProp 𝕄} :
    iprop(After d L tab ix s q g ∗ lstPts d L ix 0 (128 * g) ∗ todoPts d L o (128 * g) 6400 ∗ Owe d L O W)
      ⊢ iprop((iprop(Before d L tab ix s q (g + 5) ∗ lstPts d L ix 0 (128 * (g + 1)) ∗ todoPts d L o (128 * (g + 1)) 6400 ∗ Owe d L O W)
            -∗ wpT d L k Q)
          -∗ wpT d L (finishP L off h s k) Q) := by
  subst hoff
  rw [After, if_pos hg, Before, if_neg (by omega), Nat.add_sub_cancel]
  unfold Gathering Writing finishP
  iintro ⟨⟨HF, Hw⟩, Hl, Ho, HO⟩ Hk
  iapply (wait_step (sm := s.gs) s.credit) $$ [HF HO]
  · isplitl [HF]; · iexact HF
    iexact HO
  iintro ⟨⟨⟨%f, %hf, Hr⟩, Ht, Hl2⟩, Hg, HO⟩
  ihave Ho2 := (pts_cut (ℓ := outLoc d) (ax := 0) (b := base L + 128 * g + 128) (by omega) (by omega)).1 $$ Ho
  icases Ho2 with ⟨Ho, Ho2⟩
  iapply (Transfers.wp_dmaLocal countersEmb 𝒱₀ (thr d L) none (default : HIx 1) rowsN rfl
    (View.dmaCredit_pos _ (by decide)) (Finset.Subset.refl (outRows (base L + 128 * g) h).view.set)) $$ [Hr Ho Hw]
  · isplitl [Hr]; · iexact Hr
    isplitl [Ho]; · rw [set_outRows]; iexact Ho
    iexact Hw
  iintro HF
  iapply Hk
  isplitl [HF Hg Ht]
  · isplitl [HF]
    · iapply (Transfers.Flight_mono _) $$ HF
      iintro ⟨Ho, Hr⟩
      isplitl [Ho]
      · rw [donePts, ← Nat.add_assoc, ← written L tab ix d hg (h := h) o, ← hf]
        iexact Ho
      iexists _; iexact Hr
    isplitl [Hg]; · iexact Hg
    iexact Ht
  isplitl [Hl Hl2]
  · iapply (pts_cut (ℓ := lstLoc d L) (ax := 0) (Nat.zero_le _) (Nat.le_add_right _ _)).2
    isplitl [Hl]; · iexact Hl
    iexact Hl2
  isplitl [Ho2]; · iexact Ho2
  iexact HO

end States

end Cert.Proof.Lookup

end
-- ==== Proof.Fetch.lean ====
/-
  The tile's list of positions: five copies of 1280 positions each. The first is waited for at once; the other four all
  signal one semaphore, are started together and waited for, all four, in the second trip of the loop — so until then
  they are ONE batch, of which no wait but the last says anything.
-/
module

public import proofs.«01_k».proof.Proof.Steps
public import Idealize.ShloMosaic.Lib.Batch

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay)
open Idealize.ShloMosaic.StableHlo.Predicate (ij ij_eta)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The copies as programs -/

abbrev isem : DmaSem sig := cc0_scratch16.sem

section Programs

variable {α : Type} (L : grid0.Coords)

/-- Start the copy of the 1280 positions at `off` to the list's entries from `b`. -/
def fetchP (sm : DmaSem sig) (off : Fin 1 → ℕ) (h : ∀ x, off x + S1280.size x ≤ S204800.size x)
    (b : ℕ) (hb : ∀ x, (![b] : Fin 1 → ℕ) x + S1280.size x ≤ S6400.size x) (k : TileProg F L α) : TileProg F L α :=
  Prog.lift (.enqueueDma (idxV.slice (Rect.unit (s := S204800) off S1280.size h) (fun _ => rfl)) (.here (lstPart b hb)) (.dma sm)
    (View.wordExact_bits rfl) (View.wordExact_bits rfl) ⟨Or.inl rfl, trivial⟩) >>= fun _ => k

/-- Wait for such a copy. -/
def fetchedP (sm : DmaSem sig) (off : Fin 1 → ℕ) (h : ∀ x, off x + S1280.size x ≤ S204800.size x) (k : TileProg F L α) :
    TileProg F L α :=
  Prog.lift (.waitDma2 sm (idxV.slice (Rect.unit (s := S204800) off S1280.size h) (fun _ => rfl)) (lstPart 0 inb_S6400_S1280_0)
    (View.wordExact_bits rfl) (View.wordExact_bits rfl)) >>= fun _ => k

/-- Wait for the four later copies, when `c` says so. -/
def drainP (c : BitVec 1) (k : TileProg F L α) : TileProg F L α :=
  if _h : c = 1#1 then
    fetchedP L isem ![0] inb_S204800_S1280_0 <| fetchedP L isem ![0] inb_S204800_S1280_0 <|
      fetchedP L isem ![0] inb_S204800_S1280_0 <| fetchedP L isem ![0] inb_S204800_S1280_0 k
  else k

end Programs

/-! ## What a copy leaves -/

section States

variable (d : Dev nD) (L : grid0.Coords) (ix : S204800.Idx → Elt F .i32)
  (O : CellTallies nD τ sig (HIx 1)) (W : Waits sig (HIx 1))

/-- Copying the tile's positions from its `b`-th leaves the list there. -/
theorem fetched {b : ℕ} {h hb} (f : Buf (Elt F) ((lstPart b hb).view.loc (thr d L))) :
    ((lstPart b hb).view.loc (thr d L) ↦[(lstPart b hb).view.set]{fullShare}
        (lstPart b hb).view.write (Elt F) f ((idxPart (base L + b) h).view.read (Elt F) ix) Finset.univ : sProp 𝕄)
      = lstPts d L ix b (b + 1280) := by
  rw [lstPts, ← set_lstPart _ hb]
  refine pointsTo_congr fun i hi => ?_
  obtain ⟨j, -, rfl⟩ := Finset.mem_map.mp hi
  have e : ((lstPart b hb).view.emb j : S6400.Idx) 0 = b + (j 0).val :=
    (Rect.emb_apply _ _ _).trans (by show b + 1 * (j 0).val = _; omega)
  rw [View.write_emb_of_mem _ _ (Finset.mem_univ _), View.read_apply]
  refine (cast_eq _ _).trans ((cast_eq _ _).trans (congrArg ix ?_))
  funext a
  match a with
  | ⟨0, _⟩ =>
    refine Fin.ext ((Rect.emb_apply _ _ _).trans ?_)
    show base L + b + 1 * (j 0).val = base L + (((lstPart b hb).view.emb j : S6400.Idx) 0).val
    rw [e]; omega

/-- The bytes one such copy credits. -/
abbrev partN : ℕ := (lstPart 0 inb_S6400_S1280_0).view.dmaCredit

/-- The tile's positions from its `a`-th to its `b`-th. -/
abbrev idxPts (a b : ℕ) : sProp 𝕄 := idxLoc d ↦[band S204800 0 (base L + a) (base L + b)]{fullShare} ix

/-- What the batch's `r`-th copy delivers. -/
abbrev delivered (r : Fin 4) : sProp 𝕄 :=
  iprop(lstPts d L ix (1280 * (r.val + 1)) (1280 * (r.val + 1) + 1280) ∗ idxPts d L ix (1280 * (r.val + 1)) (1280 * (r.val + 1) + 1280))

/-- The batch of the four later copies, `j` started and `u` bytes waited for. -/
abbrev Fetching (j u : ℕ) : sProp 𝕄 :=
  Transfers.Batch (countersEmb (nD := nD) (τ := τ) (sig := sig) (Ix := HIx 1) (Val := Elt F) (Name := ℕ) (Lvl := ℕ) (U := UU))
    (thr d L) (.dma isem) (default : HIx 1) partN (delivered d L ix) j u

/-- How much of the list there is, before (`p` false) and after the four later copies are waited for; -/
def lstEnd (p : Prop) [Decidable p] : ℕ := if p then 6400 else 1280
/-- and what stands beside it. -/
def Beside (p : Prop) [Decidable p] : sProp 𝕄 :=
  if p then iprop(semZero d L isem ∗ idxPts d L ix 1280 6400) else Fetching d L ix 4 0

/-! ## The steps -/

variable {d L ix O W}
variable [FloatOps F] {α : Type}

/-- The first copy, waited for at once. -/
theorem first_step {sm : DmaSem sig} {off : Fin 1 → ℕ} (hoff : off = ![base L]) {h h'} {o : Buf (Elt F) (lstLoc d L)} {k : TileProg F L α}
    {Q : α → sProp 𝕄} :
    iprop(idxPts d L ix 0 1280 ∗ (lstLoc d L ↦[band S6400 0 0 1280]{fullShare} o) ∗ semZero d L sm ∗ Owe d L O W)
      ⊢ iprop((iprop(idxPts d L ix 0 1280 ∗ lstPts d L ix 0 1280 ∗ semZero d L sm ∗ Owe d L O W) -∗ wpT d L k Q)
          -∗ wpT d L (fetchP L sm off h 0 inb_S6400_S1280_0 (fetchedP L sm off h' k)) Q) := by
  subst hoff
  unfold fetchP fetchedP
  iintro ⟨Hi, Hl, Hs, HO⟩ Hk
  iapply (Transfers.wp_dmaLocal countersEmb 𝒱₀ (thr d L) none (default : HIx 1) partN rfl
    (View.dmaCredit_pos _ (by decide)) (Finset.Subset.refl (lstPart 0 inb_S6400_S1280_0).view.set)) $$ [Hi Hl Hs]
  · isplitl [Hi]; · rw [set_idxPart]; iexact Hi
    isplitl [Hl]; · rw [set_lstPart]; iexact Hl
    iexact Hs
  iintro HF
  iapply (wait_step (sm := sm) rfl) $$ [HF HO]
  · isplitl [HF]; · iexact HF
    iexact HO
  iintro ⟨⟨Hl, Hi⟩, Hs, HO⟩
  iapply Hk
  isplitl [Hi]; · rw [set_idxPart]; iexact Hi
  isplitl [Hl]; · rw [← fetched d L ix (b := 0) (h := h) (hb := inb_S6400_S1280_0) o]; iexact Hl
  isplitl [Hs]; · iexact Hs
  iexact HO

/-- The start of the batch's `r`-th copy. -/
theorem fetch_step (r : Fin 4) {b : ℕ} (hb : b = 1280 * (r.val + 1)) {off : Fin 1 → ℕ} (hoff : off = ![base L + b]) {h hb'} {o : Buf (Elt F) (lstLoc d L)}
    {k : TileProg F L α} {Q : α → sProp 𝕄} :
    iprop(idxPts d L ix b (b + 1280) ∗ (lstLoc d L ↦[band S6400 0 b (b + 1280)]{fullShare} o) ∗ Fetching d L ix r.val 0)
      ⊢ iprop((Fetching d L ix (r.val + 1) 0 -∗ wpT d L k Q) -∗ wpT d L (fetchP L isem off h b hb' k) Q) := by
  subst hoff
  unfold fetchP
  have hD : iprop(((lstPart b hb').view.loc (thr d L) ↦[(lstPart b hb').view.set]{fullShare}
        (lstPart b hb').view.write (Elt F) o ((idxPart (base L + b) h).view.read (Elt F) ix) Finset.univ)
      ∗ ((idxPart (base L + b) h).view.loc (thr d L) ↦[(idxPart (base L + b) h).view.set]{fullShare} ix))
      ⊢ delivered d L ix ⟨r.val, r.isLt⟩ := by
    rw [fetched, set_idxPart, delivered, ← hb]
    exact Entails.refl _
  have hN : (lstPart b hb').view.amount (.dma isem) = partN := rfl
  iintro ⟨Hi, Hl, HB⟩ Hk
  iapply (Transfers.wp_dmaBatch countersEmb 𝒱₀ (thr d L) none (via := .same) (src := idxPart (base L + b) h) (dst := lstPart b hb')
    (D := delivered d L ix) (default : HIx 1) partN hN
    (Finset.Subset.refl (lstPart b hb').view.set) r.isLt (Nat.zero_le _) hD) $$ [Hi Hl HB]
  · isplitl [Hi]; · rw [set_idxPart]; iexact Hi
    isplitl [Hl]; · rw [set_lstPart]; iexact Hl
    iexact HB
  iexact Hk

/-- A wait for the batch that is not the last says nothing. -/
theorem early_step {u : ℕ} (hu : u + partN < partN * 4) {off h} {k : TileProg F L α} {Q : α → sProp 𝕄} :
    iprop(Fetching d L ix 4 u ∗ Owe d L O W)
      ⊢ iprop((iprop(Fetching d L ix 4 (u + partN) ∗ Owe d L O W) -∗ wpT d L k Q) -∗ wpT d L (fetchedP L isem off h k) Q) := by
  unfold Owe fetchedP
  iintro ⟨HB, #Hmw, %W', %hW, HO⟩ Hk
  iapply (Transfers.wp_waitBatchO countersEmb 𝒱₀ (thr d L) none (default : HIx 1) rfl hu) $$ [HB HO]
  · isplitl [HB]; · iexact HB
    isplitl [HO]; · iexact HO
    iapply (Transfers.MayWaits.elim (SemLoc.dma isem)) $$ Hmw
  iintro ⟨HB, HO⟩
  iapply Hk
  isplitl [HB]; · iexact HB
  isplitr; · iexact Hmw
  iexists _; isplitr
  swap; · iexact HO
  ipureintro; intro p hp
  rcases Finset.mem_insert.mp hp with rfl | hp
  · exact .inr rfl
  · exact hW p hp

/-- The last wait for the batch brings all it delivers. -/
theorem last_step {u : ℕ} (hu : u + partN = partN * 4) {off h} {k : TileProg F L α} {Q : α → sProp 𝕄} :
    iprop(Fetching d L ix 4 u ∗ Owe d L O W)
      ⊢ iprop((iprop(bigSep Finset.univ (delivered d L ix) ∗ semZero d L isem ∗ Owe d L O W) -∗ wpT d L k Q)
          -∗ wpT d L (fetchedP L isem off h k) Q) := by
  unfold Owe fetchedP
  iintro ⟨HB, #Hmw, %W', %hW, HO⟩ Hk
  iapply (Transfers.wp_waitBatchLastO countersEmb 𝒱₀ (thr d L) none (default : HIx 1) rfl (View.dmaCredit_pos _ (by decide)) hu) $$ [HB HO]
  · isplitl [HB]; · iexact HB
    isplitl [HO]; · iexact HO
    iapply (Transfers.MayWaits.elim (SemLoc.dma isem)) $$ Hmw
  iintro ⟨HD, Hs, HO⟩
  iapply Hk
  isplitl [HD]; · iexact HD
  isplitl [Hs]; · iexact Hs
  isplitr; · iexact Hmw
  iexists _; isplitr
  swap; · iexact HO
  ipureintro; intro p hp
  rcases Finset.mem_insert.mp hp with rfl | hp
  · exact .inr rfl
  · exact hW p hp

/-- All the batch delivers is the rest of the list and the positions it was copied from. -/
theorem delivered_all : (bigSep Finset.univ (delivered d L ix) : sProp 𝕄) ⊢ iprop(lstPts d L ix 1280 6400 ∗ idxPts d L ix 1280 6400) := by
  rw [show (Finset.univ : Finset (Fin 4)) = {0, 1, 2, 3} by decide, SparseCore.bigSep_insert' (by decide), SparseCore.bigSep_insert' (by decide),
    SparseCore.bigSep_insert' (by decide), bigSep_singleton]
  iintro ⟨⟨Hl0, Hi0⟩, ⟨Hl1, Hi1⟩, ⟨Hl2, Hi2⟩, ⟨Hl3, Hi3⟩⟩
  isplitl [Hl0 Hl1 Hl2 Hl3]
  · iapply (pts_cut (ℓ := lstLoc d L) (ax := 0) (b := 2560) (by omega) (by omega)).2
    isplitl [Hl0]; · iexact Hl0
    iapply (pts_cut (ℓ := lstLoc d L) (ax := 0) (b := 3840) (by omega) (by omega)).2
    isplitl [Hl1]; · iexact Hl1
    iapply (pts_cut (ℓ := lstLoc d L) (ax := 0) (b := 5120) (by omega) (by omega)).2
    isplitl [Hl2]; · iexact Hl2
    iexact Hl3
  · iapply (pts_cut (ℓ := idxLoc d) (ax := 0) (b := base L + 2560) (by omega) (by omega)).2
    isplitl [Hi0]; · iexact Hi0
    iapply (pts_cut (ℓ := idxLoc d) (ax := 0) (b := base L + 3840) (by omega) (by omega)).2
    isplitl [Hi1]; · iexact Hi1
    iapply (pts_cut (ℓ := idxLoc d) (ax := 0) (b := base L + 5120) (by omega) (by omega)).2
    isplitl [Hi2]; · iexact Hi2
    iexact Hi3

/-- The wait for the four later copies, in the loop's trip `t`: it is in the second trip. -/
theorem drain_step {t a : ℕ} (ha : t = 1 → a ≤ 1280) {c : BitVec 1} (hc : c = 1#1 ↔ t = 1) {k : TileProg F L α} {Q : α → sProp 𝕄} :
    iprop(lstPts d L ix a (lstEnd (2 ≤ t)) ∗ Beside d L ix (2 ≤ t) ∗ Owe d L O W)
      ⊢ iprop((iprop(lstPts d L ix a (lstEnd (1 ≤ t)) ∗ Beside d L ix (1 ≤ t) ∗ Owe d L O W) -∗ wpT d L k Q)
          -∗ wpT d L (drainP L c k) Q) := by
  unfold drainP lstEnd Beside
  by_cases h1 : t = 1
  · rw [dif_pos (hc.mpr h1), if_neg (by omega), if_neg (by omega), if_pos (by omega), if_pos (by omega)]
    have hp : 0 < partN := View.dmaCredit_pos _ (by decide)
    iintro ⟨Hl, HB, HO⟩ Hk
    iapply (early_step (u := 0) (by omega)) $$ [HB HO]; · isplitl [HB] <;> iassumption
    iintro ⟨HB, HO⟩
    iapply (early_step (u := 0 + partN) (by omega)) $$ [HB HO]; · isplitl [HB] <;> iassumption
    iintro ⟨HB, HO⟩
    iapply (early_step (u := 0 + partN + partN) (by omega)) $$ [HB HO]; · isplitl [HB] <;> iassumption
    iintro ⟨HB, HO⟩
    iapply (last_step (u := 0 + partN + partN + partN) (by omega)) $$ [HB HO]; · isplitl [HB] <;> iassumption
    iintro ⟨HD, Hs, HO⟩
    ihave HD' := (delivered_all (F := F)) $$ HD
    icases HD' with ⟨Hl2, Hi⟩
    iapply Hk
    isplitl [Hl Hl2]
    · iapply (pts_cut (ℓ := lstLoc d L) (ax := 0) (ha h1) (by omega)).2
      isplitl [Hl]; · iexact Hl
      iexact Hl2
    isplitl [Hs Hi]
    · isplitl [Hs]; · iexact Hs
      iexact Hi
    iexact HO
  · rw [dif_neg (fun e => h1 (hc.mp e))]
    simp only [show (2 ≤ t) = (1 ≤ t) from propext (by omega)]
    iintro HP Hk
    iapply Hk $$ HP

end States

end Cert.Proof.Lookup

end
-- ==== Proof.Trip.lean ====
/-
  One trip of the kernel's loop, at a symbolic trip of a symbolic tile: trip `t` issues chunks `5t+3 … 5t+7` and finishes
  chunks `5t … 5t+4`, in turn. What holds before trip `t` is the loop's invariant, values and all.
-/
module

public import proofs.«01_k».proof.Proof.Fetch

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay)
open Idealize.ShloMosaic.StableHlo.Predicate (ij ij_eta)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A trip as steps -/

/-- Whether a row buffer has a write-out to wait for before chunk `v + 3`, as the kernel computes it. -/
def laterC (v : BitVec 32) : BitVec 1 := Scalar.cmpi .ne (Scalar.extui (Scalar.cmpi .sge (Scalar.addi v 3#32) 5#32) : BitVec 32) 0#32
/-- Five times the trip, as the kernel computes it. -/
def fiveT (t : Fin k0_t1_loop.trips) : BitVec 32 := Scalar.muli (Scf.iv 0#32 1#32 t) 5#32
/-- Whether it is the second trip, as the kernel computes it. -/
def secondC (t : Fin k0_t1_loop.trips) : BitVec 1 := Scalar.cmpi .ne (Scalar.extui (Scalar.cmpi .eq (fiveT t) 5#32) : BitVec 32) 0#32

section Programs

variable (L : grid0.Coords) (v2 : BitVec 32)

/-- The first of the two sections a trip is printed in, at the tile's buffers, -/
abbrev part1P (c0 c1 : BitVec 32) (t : Fin k0_t1_loop.trips) :=
  k0_part1_skel (F := F) L tabV (Memref.isWhole_whole _) idxV (Memref.isWhole_whole _) outV (Memref.isWhole_whole _) lstV (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scoped0 v2 c0 c1 t
/-- and the second. -/
abbrev part2P (t : Fin k0_t1_loop.trips) (v40 v66 c3 : BitVec 32) :=
  k0_part2_skel (F := F) L tabV (Memref.isWhole_whole _) idxV (Memref.isWhole_whole _) outV (Memref.isWhole_whole _) lstV (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scoped0 v2 t v40 v66 c3
/-- A trip, as the program names it, at the tile's buffers. -/
abbrev tripP : Fin k0_t1_loop.trips → Unit → TileProg F L Unit :=
  k0_t1_body (F := F) L tabV (Memref.isWhole_whole _) idxV (Memref.isWhole_whole _) outV (Memref.isWhole_whole _) lstV (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scoped0 v2

variable (t : Fin k0_t1_loop.trips)

theorem part1_steps :
    part1P (F := F) L v2 0#32 1#32 t
      = drainP L (secondC t) (
          issueP L (k0_cond2 t) (laterC (Scalar.addi (fiveT t) 0#32)) (k0_off3 t) (k0_off3_inb t) slot3 <|
          finishP L (k0_off4 L t 0#32) (k0_off4_inb L t 0) slot0 <|
          issueP L (k0_cond4 t) (laterC (Scalar.addi (fiveT t) 1#32)) (k0_off5 t) (k0_off5_inb t) slot4 <|
          finishP L (k0_off4 L t 1#32) (k0_off4_inb L t 1) slot1 <|
          pure ⟨fiveT t, Scalar.addi (fiveT t) 2#32, 3#32⟩) := rfl

theorem part2_steps :
    part2P (F := F) L v2 t (fiveT t) (Scalar.addi (fiveT t) 2#32) 3#32
      = (issueP L (k0_cond6 t) (laterC (Scalar.addi (fiveT t) 2#32)) (k0_off6 t) (k0_off6_inb t) slot0 <|
          finishP L (k0_off4 L t 2#32) (k0_off4_inb L t 2) slot2 <|
          issueP L (k0_cond8 t) (laterC (Scalar.addi (fiveT t) 3#32)) (k0_off7 t) (k0_off7_inb t) slot1 <|
          finishP L (k0_off4 L t 3#32) (k0_off4_inb L t 3) slot3 <|
          issueP L (k0_cond10 t) (laterC (Scalar.addi (fiveT t) 4#32)) (k0_off8 t) (k0_off8_inb t) slot2 <|
          pure (Scalar.addi (fiveT t) 4#32)) := rfl

theorem trip_steps :
    tripP (F := F) L v2 t ()
      = part1P (F := F) L v2 0#32 1#32 t >>= fun x => part2P (F := F) L v2 t x.1 x.2.1 x.2.2 >>= fun _ =>
          finishP L (k0_off4 L t 4#32) (k0_off4_inb L t 4) slot4 (pure ⟨⟩) := by
  simp only [tripP, k0_t1_body, k0_part1_eq_skeleton, k0_part2_eq_skeleton]
  rfl

end Programs

/-! ## The kernel's arithmetic -/

theorem trips_eq : k0_t1_loop.trips = 10 := by decide +kernel
theorem secondC_iff : ∀ t : Fin k0_t1_loop.trips, secondC t = 1#1 ↔ t.val = 1 := by decide +kernel
/-- Each of the trip's five chunks to issue is one of the 50 when it says so, -/
theorem conds_iff : ∀ t : Fin k0_t1_loop.trips, (k0_cond2 t = 1#1 ↔ 5 * t.val + 3 < 50) ∧ (k0_cond4 t = 1#1 ↔ 5 * t.val + 4 < 50)
    ∧ (k0_cond6 t = 1#1 ↔ 5 * t.val + 5 < 50) ∧ (k0_cond8 t = 1#1 ↔ 5 * t.val + 6 < 50) ∧ (k0_cond10 t = 1#1 ↔ 5 * t.val + 7 < 50) := by
  decide +kernel
/-- and its buffer has been written out of when it says so. -/
theorem laterC_iff : ∀ (t : Fin k0_t1_loop.trips) (r : Fin 5),
    laterC (Scalar.addi (fiveT t) (BitVec.ofNat 32 r.val)) = 1#1 ↔ 5 ≤ 5 * t.val + (r.val + 3) := by
  decide +kernel

/-- The list run of a chunk to issue. -/
theorem listOffs (t : Fin k0_t1_loop.trips) : k0_off3 t = ![128 * (5 * t.val + 3)] ∧ k0_off5 t = ![128 * (5 * t.val + 4)]
    ∧ k0_off6 t = ![128 * (5 * t.val + 5)] ∧ k0_off7 t = ![128 * (5 * t.val + 6)] ∧ k0_off8 t = ![128 * (5 * t.val + 7)] := by
  rw [k0_off3_eq, k0_off5_eq, k0_off6_eq, k0_off7_eq, k0_off8_eq]
  refine ⟨?_, ?_, ?_, ?_, ?_⟩ <;> congr 1 <;> omega
/-- The result rows of a chunk to finish. -/
theorem outOff (L : grid0.Coords) (t : Fin k0_t1_loop.trips) (r : Fin 5) :
    k0_off4 L t (BitVec.ofNat 32 r.val) = ![base L + 128 * (5 * t.val + r.val), 0] := by
  rw [k0_off4_eq]; unfold base; congr 1; omega

/-! ## The invariant and a trip -/

section States

variable (d : Dev nD) (L : grid0.Coords) (tab : S100000x128.Idx → Elt F .f32) (ix : S204800.Idx → Elt F .i32)
  (O : CellTallies nD τ sig (HIx 1)) (W : Waits sig (HIx 1)) (o : Buf (Elt F) (outLoc d)) (q : Fin 5 → PosShare TreeShare)

/-- What stands beside the row buffers when chunks below `a` are finished and chunks below `b` issued, the list there to its
    entry `E`. -/
def Shared (E a b : ℕ) : sProp 𝕄 :=
  iprop(lstPts d L ix 0 (128 * a) ∗ lstPts d L ix (128 * b) E ∗ donePts d L tab ix 0 (doneTo b) ∗ todoPts d L o (128 * a) 6400 ∗ Owe d L O W)

/-- What holds before trip `t`. -/
def Inv (t : ℕ) : sProp 𝕄 :=
  iprop(After d L tab ix slot0 (q 0) (5 * t) ∗ After d L tab ix slot1 (q 1) (5 * t + 1) ∗ After d L tab ix slot2 (q 2) (5 * t + 2)
    ∗ Before d L tab ix slot3 (q 3) (5 * t + 3) ∗ Before d L tab ix slot4 (q 4) (5 * t + 4)
    ∗ Beside d L ix (2 ≤ t) ∗ Shared d L tab ix O W o (lstEnd (2 ≤ t)) (5 * t) (5 * t + 3))

variable {d L tab ix O W o q}
variable [FloatOps F] {α : Type}

/-- ISSUE of the chunk next to issue. -/
theorem issue_shared (hin : InRange ix) {s : Slot} {p : PosShare TreeShare} {a b E : ℕ} {c c' : BitVec 1} (hc : c = 1#1 ↔ b < 50)
    (hc' : c' = 1#1 ↔ 5 ≤ b) (hE : b < 50 → 128 * b + 128 ≤ E) (hE' : E ≤ 6400) {off : Fin 1 → ℕ} (hoff : off = ![128 * b])
    {h : c = 1#1 → ∀ x, off x + S128.size x ≤ S6400.size x} {k : TileProg F L α} {Q : α → sProp 𝕄} :
    iprop(Before d L tab ix s p b ∗ Shared d L tab ix O W o E a b)
      ⊢ iprop((iprop(After d L tab ix s p b ∗ Shared d L tab ix O W o E a (b + 1)) -∗ wpT d L k Q)
          -∗ wpT d L (issueP L c c' off h s k) Q) := by
  unfold Shared
  iintro ⟨HB, Hl0, Hl, Hd, Ht, HO⟩ Hk
  iapply (issue_step hin hc hc' hE hE' hoff) $$ [HB Hl Hd HO]
  · isplitl [HB]; · iexact HB
    isplitl [Hl]; · iexact Hl
    isplitl [Hd]; · iexact Hd
    iexact HO
  iintro ⟨HB, Hl, Hd, HO⟩
  iapply Hk
  isplitl [HB]; · iexact HB
  isplitl [Hl0]; · iexact Hl0
  isplitl [Hl]; · iexact Hl
  isplitl [Hd]; · iexact Hd
  isplitl [Ht]; · iexact Ht
  iexact HO

/-- FINISH of the chunk next to finish. -/
theorem finish_shared {s : Slot} {p : PosShare TreeShare} {a b E : ℕ} (ha : a < 50) {off : Fin 2 → ℕ}
    (hoff : off = ![base L + 128 * a, 0]) {h : ∀ x, off x + S128x128.size x ≤ S204800x128.size x} {k : TileProg F L α}
    {Q : α → sProp 𝕄} :
    iprop(After d L tab ix s p a ∗ Shared d L tab ix O W o E a b)
      ⊢ iprop((iprop(Before d L tab ix s p (a + 5) ∗ Shared d L tab ix O W o E (a + 1) b) -∗ wpT d L k Q)
          -∗ wpT d L (finishP L off h s k) Q) := by
  unfold Shared
  iintro ⟨HB, Hl0, Hl, Hd, Ht, HO⟩ Hk
  iapply (finish_step ha hoff) $$ [HB Hl0 Ht HO]
  · isplitl [HB]; · iexact HB
    isplitl [Hl0]; · iexact Hl0
    isplitl [Ht]; · iexact Ht
    iexact HO
  iintro ⟨HB, Hl0, Ht, HO⟩
  iapply Hk
  isplitl [HB]; · iexact HB
  isplitl [Hl0]; · iexact Hl0
  isplitl [Hl]; · iexact Hl
  isplitl [Hd]; · iexact Hd
  isplitl [Ht]; · iexact Ht
  iexact HO

/-- The check whether it is the second trip, and then the drain of the list's last four copies. -/
theorem drain_shared {t a b : ℕ} (hb : t = 1 → b ≤ 10) {c : BitVec 1} (hc : c = 1#1 ↔ t = 1) {k : TileProg F L α} {Q : α → sProp 𝕄} :
    iprop(Beside d L ix (2 ≤ t) ∗ Shared d L tab ix O W o (lstEnd (2 ≤ t)) a b)
      ⊢ iprop((iprop(Beside d L ix (1 ≤ t) ∗ Shared d L tab ix O W o (lstEnd (1 ≤ t)) a b) -∗ wpT d L k Q)
          -∗ wpT d L (drainP L c k) Q) := by
  unfold Shared
  iintro ⟨Hb, Hl0, Hl, Hd, Ht, HO⟩ Hk
  iapply (drain_step (d := d) (L := L) (O := O) (W := W) (t := t) (a := 128 * b) (fun h => by have := hb h; omega) hc) $$ [Hl Hb HO]
  · isplitl [Hl]; · iexact Hl
    isplitl [Hb]; · iexact Hb
    iexact HO
  iintro ⟨Hl, Hb, HO⟩
  iapply Hk
  isplitl [Hb]; · iexact Hb
  isplitl [Hl0]; · iexact Hl0
  isplitl [Hl]; · iexact Hl
  isplitl [Hd]; · iexact Hd
  isplitl [Ht]; · iexact Ht
  iexact HO

set_option maxHeartbeats 1000000 in
/-- A trip takes the invariant to the next trip's. -/
theorem trip (hin : InRange ix) (v2 : BitVec 32) (t : Fin k0_t1_loop.trips) :
    Inv d L tab ix O W o q t.val ⊢ wpT d L (tripP (F := F) L v2 t ()) (fun _ => Inv d L tab ix O W o q (t.val + 1)) := by
  have ht : t.val < 10 := trips_eq ▸ t.isLt
  obtain ⟨c3, c4, c5, c6, c7⟩ := conds_iff t
  obtain ⟨o3, o4, o5, o6, o7⟩ := listOffs t
  have hE : ∀ b, b ≤ 5 * t.val + 7 → b < 50 → 128 * b + 128 ≤ lstEnd (1 ≤ t.val) := by
    intro b hb hb'; unfold lstEnd; split <;> omega
  have hE' : lstEnd (1 ≤ t.val) ≤ 6400 := by unfold lstEnd; split <;> omega
  rw [trip_steps, wpT, wp_bind, part1_steps]
  unfold Inv
  iintro ⟨H0, H1, H2, H3, H4, Hb, HS⟩
  iapply (drain_shared (t := t.val) (b := 5 * t.val + 3) (by omega) (secondC_iff t)) $$ [Hb HS]
  · isplitl [Hb]; · iexact Hb
    iexact HS
  iintro ⟨Hb, HS⟩
  iapply (issue_shared hin c3 (laterC_iff t 0) (hE _ (by omega)) hE' o3) $$ [H3 HS]
  · isplitl [H3]; · iexact H3
    iexact HS
  iintro ⟨H3, HS⟩
  iapply (finish_shared (by omega) (outOff L t 0)) $$ [H0 HS]
  · isplitl [H0]; · iexact H0
    iexact HS
  iintro ⟨H0, HS⟩
  iapply (issue_shared hin c4 (laterC_iff t 1) (hE _ (by omega)) hE' o4) $$ [H4 HS]
  · isplitl [H4]; · iexact H4
    iexact HS
  iintro ⟨H4, HS⟩
  iapply (finish_shared (by omega) (outOff L t 1)) $$ [H1 HS]
  · isplitl [H1]; · iexact H1
    iexact HS
  iintro ⟨H1, HS⟩
  iapply (Entails.of_eq (wp_pure _ _ _ _ _).symm)
  imodintro
  rw [wp_bind, part2_steps]
  iapply (issue_shared hin c5 (laterC_iff t 2) (hE _ (by omega)) hE' o5) $$ [H0 HS]
  · isplitl [H0]; · iexact H0
    iexact HS
  iintro ⟨H0, HS⟩
  iapply (finish_shared (by omega) (outOff L t 2)) $$ [H2 HS]
  · isplitl [H2]; · iexact H2
    iexact HS
  iintro ⟨H2, HS⟩
  iapply (issue_shared hin c6 (laterC_iff t 3) (hE _ (by omega)) hE' o6) $$ [H1 HS]
  · isplitl [H1]; · iexact H1
    iexact HS
  iintro ⟨H1, HS⟩
  iapply (finish_shared (by omega) (outOff L t 3)) $$ [H3 HS]
  · isplitl [H3]; · iexact H3
    iexact HS
  iintro ⟨H3, HS⟩
  iapply (issue_shared hin c7 (laterC_iff t 4) (hE _ (by omega)) hE' o7) $$ [H2 HS]
  · isplitl [H2]; · iexact H2
    iexact HS
  iintro ⟨H2, HS⟩
  iapply (Entails.of_eq (wp_pure _ _ _ _ _).symm)
  imodintro
  iapply (finish_shared (by omega) (outOff L t 4)) $$ [H4 HS]
  · isplitl [H4]; · iexact H4
    iexact HS
  iintro ⟨H4, HS⟩
  iapply (Entails.of_eq (wp_pure _ _ _ _ _).symm)
  imodintro
  simp only [show (2 ≤ t.val + 1) = (1 ≤ t.val) from propext (by omega), show 5 * (t.val + 1) = 5 * t.val + 5 by omega]
  isplitl [H0]; · iexact H0
  isplitl [H1]; · iexact H1
  isplitl [H2]; · iexact H2
  isplitl [H3]; · iexact H3
  isplitl [H4]; · iexact H4
  isplitl [Hb]; · iexact Hb
  iexact HS

end States

end Cert.Proof.Lookup

end
-- ==== Proof.Tile.lean ====
/-
  A tile's whole run: the list fetched, the first three chunks issued, the ten trips, the last five write-outs waited for.
  From its positions, a share of the table and its result rows at anything, to the result rows looked up.
-/
module

public import proofs.«01_k».proof.Proof.Trip

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay)
open Idealize.ShloMosaic.StableHlo.Predicate (ij ij_eta)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The run as steps -/

section Programs

variable (L : grid0.Coords)

/-- The section the list is fetched in, at the tile's buffers. -/
abbrev part3P :=
  k0_part3_skel (F := F) L tabV (Memref.isWhole_whole _) idxV (Memref.isWhole_whole _) outV (Memref.isWhole_whole _) lstV (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scoped0
/-- The kernel, at the tile's buffers. -/
abbrev bodyP [FloatOps F] : TileProg F L PUnit :=
  cc0__emb_kernel (F := F) L tabV (Memref.isWhole_whole _) idxV (Memref.isWhole_whole _) outV (Memref.isWhole_whole _) lstV (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15 cc0_scratch16 cc0_scoped0

/-- The first of the tile's positions, as the kernel computes it. -/
def baseV : BitVec 32 := Scalar.muli (Scalar.addi (Scalar.muli (BitVec.ofNat 32 (L 1).val) 2#32) (BitVec.ofNat 32 (L 0).val)) 6400#32

theorem part3_steps :
    part3P (F := F) L
      = (fetchP L cc0_scoped0.sem (k0_off1 L) (k0_off1_inb L) 0 inb_S6400_S1280_0 <|
          fetchedP L cc0_scoped0.sem (k0_off1 L) (k0_off1_inb L) <|
          fetchP L isem (k0_off2 L 1280#32) (k0_off2_inb L 0) 1280 inb_S6400_S1280_1280 <|
          fetchP L isem (k0_off2 L 2560#32) (k0_off2_inb L 1) 2560 inb_S6400_S1280_2560 <|
          fetchP L isem (k0_off2 L 3840#32) (k0_off2_inb L 2) 3840 inb_S6400_S1280_3840 <|
          fetchP L isem (k0_off2 L 5120#32) (k0_off2_inb L 3) 5120 inb_S6400_S1280_5120 <|
          pure (baseV L)) := rfl

set_option maxRecDepth 65536 in
theorem body_steps [FloatOps F] :
    bodyP (F := F) L
      = part3P (F := F) L >>= fun v2 =>
          gatherP L ![0] inb_S6400_S128_0 slot0 <| gatherP L ![128] inb_S6400_S128_128 slot1 <| gatherP L ![256] inb_S6400_S128_256 slot2 <|
          Scf.for 0#32 10#32 1#32 k0_t1_ok ⟨⟩ (tripP (F := F) L v2) >>= fun _ =>
          freeP L slot0 <| freeP L slot1 <| freeP L slot2 <| freeP L slot3 <| freeP L slot4 <| pure ⟨⟩ := by
  rw [bodyP, cc0__emb_kernel_eq_skeleton, cc0__emb_kernel_skel, k0_part3_eq_skeleton]
  rfl

/-- Where each of the four later copies starts. -/
theorem partOff (r : Fin 4) : k0_off2 L (BitVec.ofNat 32 (1280 + 1280 * r.val)) = ![base L + 1280 * (r.val + 1)] := by
  rw [k0_off2_eq]; rfl

end Programs

/-! ## The list -/

section States

variable {d : Dev nD} {L : grid0.Coords} {tab : S100000x128.Idx → Elt F .f32} {ix : S204800.Idx → Elt F .i32}
  {O : CellTallies nD τ sig (HIx 1)} {W : Waits sig (HIx 1)} {o : Buf (Elt F) (outLoc d)} {q : Fin 5 → PosShare TreeShare}
variable [FloatOps F] {α : Type}

/-- What the `r`-th of the four later copies starts from. -/
def Unfetched (d : Dev nD) (L : grid0.Coords) (ix : S204800.Idx → Elt F .i32) (l : Buf (Elt F) (lstLoc d L)) (r : ℕ) : sProp 𝕄 :=
  iprop(idxPts d L ix (1280 * (r + 1)) 6400 ∗ (lstLoc d L ↦[band S6400 0 (1280 * (r + 1)) 6400]{fullShare} l) ∗ Fetching d L ix r 0)

/-- One of the four later copies. -/
theorem later_step {l : Buf (Elt F) (lstLoc d L)} (r : Fin 4) {b : ℕ} (hb : b = 1280 * (r.val + 1)) {off : Fin 1 → ℕ}
    (hoff : off = ![base L + b]) {h hb'} {k : TileProg F L α} {Q : α → sProp 𝕄} :
    Unfetched d L ix l r.val
      ⊢ iprop((Unfetched d L ix l (r.val + 1) -∗ wpT d L k Q) -∗ wpT d L (fetchP L isem off h b hb' k) Q) := by
  subst hb
  have hr : r.val < 4 := r.isLt
  unfold Unfetched
  iintro ⟨Hi, Hl, HB⟩ Hk
  ihave Hi := (pts_cut (ℓ := idxLoc d) (ax := 0) (a := base L + 1280 * (r.val + 1)) (b := base L + (1280 * (r.val + 1) + 1280)) (c := base L + 6400) (by omega) (by omega)).1 $$ Hi
  icases Hi with ⟨Hi0, Hi⟩
  ihave Hl := (pts_cut (ℓ := lstLoc d L) (ax := 0) (a := 1280 * (r.val + 1)) (b := 1280 * (r.val + 1) + 1280) (c := 6400) (by omega) (by omega)).1 $$ Hl
  icases Hl with ⟨Hl0, Hl⟩
  iapply (fetch_step r rfl hoff) $$ [Hi0 Hl0 HB]
  · isplitl [Hi0]; · iexact Hi0
    isplitl [Hl0]; · iexact Hl0
    iexact HB
  iintro HB
  iapply Hk
  isplitl [Hi]; · iexact Hi
  isplitl [Hl]; · iexact Hl
  iexact HB

/-- The list's fetch: the first 1280 entries there, the rest on their way. -/
theorem fetch_run {l : Buf (Elt F) (lstLoc d L)} {k : BitVec 32 → TileProg F L α} {Q : α → sProp 𝕄} :
    iprop(idxPts d L ix 0 6400 ∗ (lstLoc d L ↦[band S6400 0 0 6400]{fullShare} l) ∗ semZero d L cc0_scoped0.sem ∗ semZero d L isem ∗ Owe d L O W)
      ⊢ iprop((iprop(idxPts d L ix 0 1280 ∗ lstPts d L ix 0 1280 ∗ semZero d L cc0_scoped0.sem ∗ Fetching d L ix 4 0 ∗ Owe d L O W)
            -∗ wpT d L (k (baseV L)) Q)
          -∗ wpT d L (part3P (F := F) L >>= k) Q) := by
  rw [show wpT d L (part3P (F := F) L >>= k) Q = wpT d L (part3P (F := F) L) (fun v => wpT d L (k v) Q) from wp_bind _ _ _ _ _ _, part3_steps]
  iintro ⟨Hi, Hl, Hs, Hs', HO⟩ Hk
  ihave Hi := (pts_cut (ℓ := idxLoc d) (ax := 0) (a := base L + 0) (b := base L + 1280) (c := base L + 6400) (by omega) (by omega)).1 $$ Hi
  icases Hi with ⟨Hi0, Hi⟩
  ihave Hl := (pts_cut (ℓ := lstLoc d L) (ax := 0) (a := 0) (b := 1280) (c := 6400) (by omega) (by omega)).1 $$ Hl
  icases Hl with ⟨Hl0, Hl⟩
  iapply (first_step (by rw [k0_off1_eq]; rfl)) $$ [Hi0 Hl0 Hs HO]
  · isplitl [Hi0]; · iexact Hi0
    isplitl [Hl0]; · iexact Hl0
    isplitl [Hs]; · iexact Hs
    iexact HO
  iintro ⟨Hi0, Hl0, Hs, HO⟩
  imod (Transfers.batch_alloc' countersEmb (c := thr d L) (default : HIx 1) partN (delivered d L ix) (E := Set.univ)) $$ Hs' with HB
  ihave HU := (show iprop(idxPts d L ix 1280 6400 ∗ (lstLoc d L ↦[band S6400 0 1280 6400]{fullShare} l) ∗ Fetching d L ix 0 0)
    ⊢ Unfetched d L ix l 0 from Entails.refl _) $$ [Hi Hl HB]
  · isplitl [Hi]; · iexact Hi
    isplitl [Hl]; · iexact Hl
    iexact HB
  iapply (later_step 0 rfl (partOff L 0)) $$ [HU]; · iexact HU
  iintro HU
  iapply (later_step 1 rfl (partOff L 1)) $$ [HU]; · iexact HU
  iintro HU
  iapply (later_step 2 rfl (partOff L 2)) $$ [HU]; · iexact HU
  iintro HU
  iapply (later_step 3 rfl (partOff L 3)) $$ [HU]; · iexact HU
  iintro HU
  unfold Unfetched
  icases HU with ⟨-, -, HB⟩
  iapply (Entails.of_eq (wp_pure _ _ _ _ _).symm)
  imodintro
  iapply Hk
  isplitl [Hi0]; · iexact Hi0
  isplitl [Hl0]; · iexact Hl0
  isplitl [Hs]; · iexact Hs
  isplitl [HB]; · iexact HB
  iexact HO

/-! ## The whole run -/

/-- The five row buffers, free. -/
def AllFree (d : Dev nD) (L : grid0.Coords) (tab : S100000x128.Idx → Elt F .f32) (q : Fin 5 → PosShare TreeShare) : sProp 𝕄 :=
  iprop(Free d L tab slot0 (q 0) ∗ Free d L tab slot1 (q 1) ∗ Free d L tab slot2 (q 2) ∗ Free d L tab slot3 (q 3) ∗ Free d L tab slot4 (q 4))

/-- What a tile starts and ends with besides the row buffers and the list: its positions and the two semaphores of their fetch. -/
def Beside0 (d : Dev nD) (L : grid0.Coords) (ix : S204800.Idx → Elt F .i32) : sProp 𝕄 :=
  iprop(idxPts d L ix 0 6400 ∗ semZero d L cc0_scoped0.sem ∗ semZero d L isem)

/-- No elements, at anything. -/
theorem pts_none {ℓ : Loc nD τ sig} {ax : Fin ℓ.ty.shape.rank} {a b : ℕ} (h : b ≤ a) {p : PosShare TreeShare} {f : Buf (Elt F) ℓ} :
    (iprop(emp) : sProp 𝕄) ⊢ ℓ ↦[band ℓ.ty.shape ax a b]{p} f := by
  rw [band_empty h, pointsTo_empty]

theorem after_lt {s : Slot} {p : PosShare TreeShare} {g : ℕ} (h : g < 50) :
    After d L tab ix s p g = Gathering d L tab ix s p g := if_pos h
theorem before_lt {s : Slot} {p : PosShare TreeShare} {g : ℕ} (h : g < 5) : Before d L tab ix s p g = Free d L tab s p := if_pos h
theorem before_ge {s : Slot} {p : PosShare TreeShare} {g : ℕ} (h : 5 ≤ g) :
    Before d L tab ix s p g = Writing d L tab ix s p (g - 5) := if_neg (by omega)
theorem after_ge {s : Slot} {p : PosShare TreeShare} {g : ℕ} (h : 50 ≤ g) :
    After d L tab ix s p g = Writing d L tab ix s p (g - 5) := (if_neg (by omega)).trans (before_ge (by omega))

/-- The invariant before the first trip: three chunks issued, two row buffers free, the list's first part there. -/
theorem inv_start :
    iprop(Gathering d L tab ix slot0 (q 0) 0 ∗ Gathering d L tab ix slot1 (q 1) 1 ∗ Gathering d L tab ix slot2 (q 2) 2
        ∗ Free d L tab slot3 (q 3) ∗ Free d L tab slot4 (q 4) ∗ Fetching d L ix 4 0 ∗ lstPts d L ix 384 1280
        ∗ todoPts d L o 0 6400 ∗ Owe d L O W)
      ⊢ Inv d L tab ix O W o q 0 := by
  unfold Inv Shared Beside lstEnd
  rw [after_lt (by omega), after_lt (by omega), after_lt (by omega), before_lt (by omega), before_lt (by omega),
    if_neg (by omega), if_neg (by omega)]
  iintro ⟨H0, H1, H2, H3, H4, HB, Hl, Ht, HO⟩
  isplitl [H0]; · iexact H0
  isplitl [H1]; · iexact H1
  isplitl [H2]; · iexact H2
  isplitl [H3]; · iexact H3
  isplitl [H4]; · iexact H4
  isplitl [HB]; · iexact HB
  isplitr; · iapply (pts_none (ℓ := lstLoc d L) (ax := 0) (Nat.le_refl 0)); iempintro
  isplitl [Hl]; · iexact Hl
  isplitr; · iapply (pts_none (ℓ := outLoc d) (ax := 0) (Nat.le_refl (base L + 0))); iempintro
  isplitl [Ht]; · iexact Ht
  iexact HO

/-- The invariant after the last: the last five chunks being written out, the list whole. -/
theorem inv_end :
    Inv d L tab ix O W o q 10
      ⊢ iprop(Writing d L tab ix slot0 (q 0) 45 ∗ Writing d L tab ix slot1 (q 1) 46 ∗ Writing d L tab ix slot2 (q 2) 47
        ∗ Writing d L tab ix slot3 (q 3) 48 ∗ Writing d L tab ix slot4 (q 4) 49 ∗ semZero d L isem ∗ idxPts d L ix 1280 6400
        ∗ lstPts d L ix 0 6400 ∗ donePts d L tab ix 0 5760 ∗ Owe d L O W) := by
  unfold Inv Shared Beside
  rw [after_ge (by omega), after_ge (by omega), after_ge (by omega), before_ge (by omega), before_ge (by omega), if_pos (by omega)]
  iintro ⟨H0, H1, H2, H3, H4, ⟨Hs, Hi⟩, Hl, -, Hd, -, HO⟩
  isplitl [H0]; · iexact H0
  isplitl [H1]; · iexact H1
  isplitl [H2]; · iexact H2
  isplitl [H3]; · iexact H3
  isplitl [H4]; · iexact H4
  isplitl [Hs]; · iexact Hs
  isplitl [Hi]; · iexact Hi
  isplitl [Hl]; · iexact Hl
  isplitl [Hd]; · iexact Hd
  iexact HO

set_option maxHeartbeats 1000000 in
/-- From the tile's result rows at anything to the same rows looked up. -/
theorem tile_run (hin : InRange ix) {l : Buf (Elt F) (lstLoc d L)} :
    iprop(AllFree d L tab q ∗ Beside0 d L ix ∗ (lstLoc d L ↦[band S6400 0 0 6400]{fullShare} l) ∗ todoPts d L o 0 6400 ∗ Owe d L O W)
      ⊢ wpT d L (bodyP (F := F) L) (fun _ =>
          iprop(AllFree d L tab q ∗ Beside0 d L ix ∗ lstPts d L ix 0 6400 ∗ donePts d L tab ix 0 6400 ∗ Owe d L O W)) := by
  rw [body_steps]
  unfold AllFree Beside0
  iintro ⟨⟨H0, H1, H2, H3, H4⟩, ⟨Hi, Hs, Hs'⟩, Hl, Ht, HO⟩
  iapply fetch_run $$ [Hi Hl Hs Hs' HO]
  · isplitl [Hi]; · iexact Hi
    isplitl [Hl]; · iexact Hl
    isplitl [Hs]; · iexact Hs
    isplitl [Hs']; · iexact Hs'
    iexact HO
  iintro ⟨Hi, Hl, Hs, HB, HO⟩
  iapply (gather_step hin (g := 0) (E := 1280) (by omega) (by omega) rfl) $$ [H0 Hl]
  · isplitl [H0]; · iexact H0
    iexact Hl
  iintro ⟨H0, Hl⟩
  iapply (gather_step hin (g := 1) (E := 1280) (by omega) (by omega) rfl) $$ [H1 Hl]
  · isplitl [H1]; · iexact H1
    iexact Hl
  iintro ⟨H1, Hl⟩
  iapply (gather_step hin (g := 2) (E := 1280) (by omega) (by omega) rfl) $$ [H2 Hl]
  · isplitl [H2]; · iexact H2
    iexact Hl
  iintro ⟨H2, Hl⟩
  ihave HI := (inv_start (W := W) (o := o)) $$ [H0 H1 H2 H3 H4 HB Hl Ht HO]
  · isplitl [H0]; · iexact H0
    isplitl [H1]; · iexact H1
    isplitl [H2]; · iexact H2
    isplitl [H3]; · iexact H3
    isplitl [H4]; · iexact H4
    isplitl [HB]; · iexact HB
    isplitl [Hl]; · iexact Hl
    isplitl [Ht]; · iexact Ht
    iexact HO
  iapply (Scf.wp_for_bind frame (wpE (defs₀ (F := F)) 𝒱₀ (thr d L) none) Set.univ 0#32 10#32 1#32 k0_t1_ok ⟨⟩ (tripP (F := F) L (baseV L))
    (fun t _ => Inv d L tab ix O W o q t) (fun t _ => trip hin (baseV L) t)) $$ HI
  iintro %_ HI
  ihave HI := (show Inv d L tab ix O W o q (Scf.trips 0#32 10#32 1#32) ⊢ _ from (Entails.of_eq (congrArg _ trips_eq)).trans inv_end) $$ HI
  icases HI with ⟨H0, H1, H2, H3, H4, Hs', Hi', Hl, Hd, HO⟩
  iapply (free_step (s := slot0)) $$ [H0 Hd HO]
  · isplitl [H0]; · iexact H0
    isplitl [Hd]; · iexact Hd
    iexact HO
  iintro ⟨H0, Hd, HO⟩
  iapply (free_step (s := slot1)) $$ [H1 Hd HO]
  · isplitl [H1]; · iexact H1
    isplitl [Hd]; · iexact Hd
    iexact HO
  iintro ⟨H1, Hd, HO⟩
  iapply (free_step (s := slot2)) $$ [H2 Hd HO]
  · isplitl [H2]; · iexact H2
    isplitl [Hd]; · iexact Hd
    iexact HO
  iintro ⟨H2, Hd, HO⟩
  iapply (free_step (s := slot3)) $$ [H3 Hd HO]
  · isplitl [H3]; · iexact H3
    isplitl [Hd]; · iexact Hd
    iexact HO
  iintro ⟨H3, Hd, HO⟩
  iapply (free_step (s := slot4)) $$ [H4 Hd HO]
  · isplitl [H4]; · iexact H4
    isplitl [Hd]; · iexact Hd
    iexact HO
  iintro ⟨H4, Hd, HO⟩
  iapply (Entails.of_eq (wp_pure _ _ _ _ _).symm)
  imodintro
  isplitl [H0 H1 H2 H3 H4]
  · isplitl [H0]; · iexact H0
    isplitl [H1]; · iexact H1
    isplitl [H2]; · iexact H2
    isplitl [H3]; · iexact H3
    iexact H4
  isplitl [Hi Hi' Hs Hs']
  · isplitl [Hi Hi']
    · iapply (pts_cut (ℓ := idxLoc d) (ax := 0) (a := base L + 0) (b := base L + 1280) (c := base L + 6400) (by omega) (by omega)).2
      isplitl [Hi]; · iexact Hi
      iexact Hi'
    isplitl [Hs]; · iexact Hs
    iexact Hs'
  isplitl [Hl]; · iexact Hl
  isplitl [Hd]; · iexact Hd
  iexact HO

end States

end Cert.Proof.Lookup

end
-- ==== Proof.Task.lean ====
/-
  A tile's run as the launch asks for it: from a tile's own buffers and semaphores as a launch deals them, with its part of
  the arrays, and back to them.
-/
module

public import proofs.«01_k».proof.Proof.Tile

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.ShloMosaic.StableHlo.Predicate (ij ij_eta)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What a tile owns -/

section Own

variable (d : Dev nD) (L : grid0.Coords)

/-- The kernel's semaphores: each row buffer's two, then the list's two. -/
abbrev usedSems : Finset (SemLoc sig) :=
  {.dma cc0_scratch6.sem, .dma cc0_scratch11.sem, .dma cc0_scratch7.sem, .dma cc0_scratch12.sem, .dma cc0_scratch8.sem, .dma cc0_scratch13.sem,
    .dma cc0_scratch9.sem, .dma cc0_scratch14.sem, .dma cc0_scratch10.sem, .dma cc0_scratch15.sem, .dma cc0_scoped0.sem, .dma cc0_scratch16.sem}
/-- The kernel's buffers: the five row buffers, then the list. -/
abbrev usedBufs : Finset (Ref sig .scVector) :=
  {cc0_scratch1, cc0_scratch2, cc0_scratch3, cc0_scratch4, cc0_scratch5, cc0_scratch0}

abbrev usedCells : Finset (GSem nD τ sig) := usedSems.map ⟨Prod.mk (thr d L), Prod.mk_right_injective _⟩
abbrev usedRefs : Finset (DevRef τ sig) := usedBufs.map ⟨(Proc.scVector (cV L) (jV L)).devRef, Proc.devRef_injective _⟩

theorem usedCells_sub : usedCells d L ⊆ ownCells (thr d L) := by
  intro g hg
  obtain ⟨sm, hsm, rfl⟩ := Finset.mem_map.mp hg
  have h : ∀ sm ∈ usedSems, sm.isScoped .scVector = true := by decide
  exact mem_ownCells.mpr ⟨rfl, h sm hsm⟩

theorem usedRefs_sub : usedRefs L ⊆ ownRefs (τ := τ) (.scVector (cV L) (jV L)) := by
  intro b hb
  obtain ⟨r, hr, rfl⟩ := Finset.mem_map.mp hb
  have h : ∀ r ∈ usedBufs, ((Proc.scVector (cV L) (jV L)).devRef r).owner = .proc (Proc.scVector (cV L) (jV L)) := by
    intro r hr
    simp only [usedBufs, Finset.mem_insert, Finset.mem_singleton] at hr
    rcases hr with rfl | rfl | rfl | rfl | rfl | rfl <;> rfl
  exact SparseCore.Cfg.mem_ownRefs_of_owner (h r hr)

/-- What else it owns, which the kernel leaves alone. -/
def otherSems : sProp 𝕄 := bigSep (ownCells (thr d L) \ usedCells d L) fun g => semVal g 0
def otherBufs : sProp 𝕄 :=
  bigSep (ownRefs (τ := τ) (.scVector (cV L) (jV L)) \ usedRefs L) fun b => iprop(∃ f, ((d, b) : Loc nD τ sig) ↦{fullShare} f)

theorem ownSems0_tile :
    (ownSems0 (thr d L) : sProp 𝕄)
      = iprop((semZero d L slot0.gs ∗ semZero d L slot0.ws ∗ semZero d L slot1.gs ∗ semZero d L slot1.ws ∗ semZero d L slot2.gs ∗ semZero d L slot2.ws
          ∗ semZero d L slot3.gs ∗ semZero d L slot3.ws ∗ semZero d L slot4.gs ∗ semZero d L slot4.ws ∗ semZero d L cc0_scoped0.sem ∗ semZero d L isem)
          ∗ otherSems d L) := by
  unfold SparseCore.Cfg.ownSems0
  rw [SparseCore.bigSep_sdiff_split' (usedCells_sub d L), bigSep_map]
  iterate 11 rw [SparseCore.bigSep_insert' (by decide)]
  rw [bigSep_singleton]
  rfl

theorem bigSep_usedBufs (Φ : Ref sig .scVector → sProp 𝕄) :
    bigSep usedBufs Φ = iprop(Φ cc0_scratch1 ∗ Φ cc0_scratch2 ∗ Φ cc0_scratch3 ∗ Φ cc0_scratch4 ∗ Φ cc0_scratch5 ∗ Φ cc0_scratch0) := by
  iterate 5 rw [SparseCore.bigSep_insert' (by decide)]
  rw [bigSep_singleton]

theorem someRows_whole (r : Ref sig .scVector) (f : Buf (Elt F) ((thr d L).loc r)) :
    ((Memref.whole r).view.loc (thr d L) ↦[(Memref.whole r).view.set]{fullShare} f : sProp 𝕄) = ((thr d L).loc r ↦{fullShare} f) := by
  rw [show (Memref.whole r).view.set = Finset.univ from View.set_whole _]

theorem ownBufs_tile :
    (ownBufs (thr d L) : sProp 𝕄)
      = iprop((someRows d L slot0 ∗ someRows d L slot1 ∗ someRows d L slot2 ∗ someRows d L slot3 ∗ someRows d L slot4
          ∗ ∃ l, lstLoc d L ↦[band S6400 0 0 6400]{fullShare} l) ∗ otherBufs d L) := by
  unfold SparseCore.Cfg.ownBufs
  rw [SparseCore.bigSep_sdiff_split' (usedRefs_sub L), bigSep_map, band_univ (s := S6400) (ax := 0) (b := 6400) (Nat.le_refl _)]
  refine congrArg₂ _ ((bigSep_usedBufs _).trans ?_) rfl
  have e (r : Ref sig .scVector) : (iprop(∃ f, (thr d L).loc r ↦{fullShare} f) : sProp 𝕄)
      = iprop(∃ f, (Memref.whole r).view.loc (thr d L) ↦[(Memref.whole r).view.set]{fullShare} f) :=
    congrArg _ (funext fun f => (someRows_whole d L r f).symm)
  exact congrArg₂ _ (e cc0_scratch1) <| congrArg₂ _ (e cc0_scratch2) <| congrArg₂ _ (e cc0_scratch3) <|
    congrArg₂ _ (e cc0_scratch4) <| congrArg₂ _ (e cc0_scratch5) rfl

end Own

/-! ## A tile's share of the table, a fifth for each row buffer -/

/-- A share cut in five. -/
def five (p : PosShare TreeShare) : Fin 5 → PosShare TreeShare :=
  ![p.left, p.right.left, p.right.right.left, p.right.right.right.left, p.right.right.right.right]

theorem pts_halves {ℓ : Loc nD τ sig} (p : PosShare TreeShare) (f : Buf (Elt F) ℓ) :
    (ℓ ↦{p} f : sProp 𝕄) = iprop((ℓ ↦{p.left} f) ∗ ℓ ↦{p.right} f) :=
  BI.Entails.antisymm (pointsTo_share (PosShare.mem_left_op_right p)).1 (pointsTo_share (PosShare.mem_left_op_right p)).2

theorem pts_five {ℓ : Loc nD τ sig} (p : PosShare TreeShare) (f : Buf (Elt F) ℓ) :
    (ℓ ↦{p} f : sProp 𝕄)
      = iprop((ℓ ↦{five p 0} f) ∗ (ℓ ↦{five p 1} f) ∗ (ℓ ↦{five p 2} f) ∗ (ℓ ↦{five p 3} f) ∗ ℓ ↦{five p 4} f) := by
  rw [pts_halves p, pts_halves p.right, pts_halves p.right.right, pts_halves p.right.right.right]
  rfl

/-! ## The task -/

section Task

variable (d : Dev nD) (L : grid0.Coords) (tab : S100000x128.Idx → Elt F .f32) (ix : S204800.Idx → Elt F .i32)
  (o : Buf (Elt F) (outLoc d)) (p : PosShare TreeShare)

/-- What tile `L` is given: its positions, share `p` of the table, its result rows at anything. -/
abbrev taskIn : sProp 𝕄 := iprop(idxPts d L ix 0 6400 ∗ (tabLoc d ↦{p} tab) ∗ todoPts d L o 0 6400)
/-- What it brings back: the same, its result rows looked up. -/
abbrev taskOut : sProp 𝕄 := iprop(idxPts d L ix 0 6400 ∗ (tabLoc d ↦{p} tab) ∗ donePts d L tab ix 0 6400)

variable [FloatOps F]

set_option maxHeartbeats 1000000 in
theorem task (hF : (K (F := F)).Facts) (hin : InRange ix) (O : CellTallies nD τ sig (HIx 1)) (W : Waits sig (HIx 1)) (hO : ∀ g, O g none = 0) :
    iprop(levAts (K (F := F)).L (K (F := F)).lev ∗ emp ∗ taskIn d L tab ix o p
        ∗ scopedBufs (thr d L) ∗ scopedSems0 (thr d L) ∗ owes (thr d L) O W)
      ⊢ wpT d L (bodyP (F := F) L) fun _ => iprop(taskOut d L tab ix p ∗ scopedBufs (thr d L) ∗ scopedSems0 (thr d L)
            ∗ ∃ W', ⌜∀ w ∈ W', w ∈ W ∨ w.2 = none⌝ ∗ owes (thr d L) O W') := by
  rw [(K (F := F)).scopedBufs_V hF d (cV L) (jV L), SparseCore.Cfg.scopedSems0_V (Val := Elt F) d (cV L) (jV L), ownSems0_tile, ownBufs_tile,
    taskIn, taskOut, pts_five]
  iintro ⟨#Hlv, -, ⟨Hi, ⟨Ht0, Ht1, Ht2, Ht3, Ht4⟩, Ho⟩, ⟨⟨Hr0, Hr1, Hr2, Hr3, Hr4, %l, Hl⟩, Hbufs⟩,
    ⟨⟨Hg0, Hw0, Hg1, Hw1, Hg2, Hw2, Hg3, Hw3, Hg4, Hw4, Hs, Hs'⟩, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand_r frame (wpE (defs₀ (F := F)) 𝒱₀ (thr d L) none) (Q := fun _ =>
    iprop(AllFree d L tab (five p) ∗ Beside0 d L ix ∗ lstPts d L ix 0 6400 ∗ donePts d L tab ix 0 6400 ∗ Owe d L O W)))
  isplitr [Hbufs Hsems]
  · iapply (tile_run hin (o := o) (l := l))
    unfold AllFree Free Beside0 Owe
    isplitl [Hr0 Hg0 Hw0 Ht0 Hr1 Hg1 Hw1 Ht1 Hr2 Hg2 Hw2 Ht2 Hr3 Hg3 Hw3 Ht3 Hr4 Hg4 Hw4 Ht4]
    · isplitl [Hr0 Hg0 Hw0 Ht0]
      · isplitl [Hr0]; · iexact Hr0
        isplitl [Hg0]; · iexact Hg0
        isplitl [Hw0]; · iexact Hw0
        iexact Ht0
      isplitl [Hr1 Hg1 Hw1 Ht1]
      · isplitl [Hr1]; · iexact Hr1
        isplitl [Hg1]; · iexact Hg1
        isplitl [Hw1]; · iexact Hw1
        iexact Ht1
      isplitl [Hr2 Hg2 Hw2 Ht2]
      · isplitl [Hr2]; · iexact Hr2
        isplitl [Hg2]; · iexact Hg2
        isplitl [Hw2]; · iexact Hw2
        iexact Ht2
      isplitl [Hr3 Hg3 Hw3 Ht3]
      · isplitl [Hr3]; · iexact Hr3
        isplitl [Hg3]; · iexact Hg3
        isplitl [Hw3]; · iexact Hw3
        iexact Ht3
      isplitl [Hr4]; · iexact Hr4
      isplitl [Hg4]; · iexact Hg4
      isplitl [Hw4]; · iexact Hw4
      iexact Ht4
    isplitl [Hi Hs Hs']
    · isplitl [Hi]; · iexact Hi
      isplitl [Hs]; · iexact Hs
      iexact Hs'
    isplitl [Hl]; · iexact Hl
    isplitl [Ho]; · iexact Ho
    isplitr; · iexact Hmw
    iexists W; isplitr
    · ipureintro; exact fun w hw => .inl hw
    · iexact HO
  iintro %_ H
  unfold AllFree Free Beside0 Owe
  icases H with ⟨⟨⟨Hr0, Hg0, Hw0, Ht0⟩, ⟨Hr1, Hg1, Hw1, Ht1⟩, ⟨Hr2, Hg2, Hw2, Ht2⟩, ⟨Hr3, Hg3, Hw3, Ht3⟩, ⟨Hr4, Hg4, Hw4, Ht4⟩⟩,
    ⟨Hi, Hs, Hs'⟩, Hl, Ho, ⟨-, HO⟩⟩
  isplitl [Hi Ht0 Ht1 Ht2 Ht3 Ht4 Ho]
  · isplitl [Hi]; · iexact Hi
    isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    iexact Ho
  isplitl [Hr0 Hr1 Hr2 Hr3 Hr4 Hl Hbufs]
  · isplitr [Hbufs]
    · isplitl [Hr0]; · iexact Hr0
      isplitl [Hr1]; · iexact Hr1
      isplitl [Hr2]; · iexact Hr2
      isplitl [Hr3]; · iexact Hr3
      isplitl [Hr4]; · iexact Hr4
      iexists _; iexact Hl
    iexact Hbufs
  isplitr [HO]
  · isplitr [Hsems]
    · isplitl [Hg0]; · iexact Hg0
      isplitl [Hw0]; · iexact Hw0
      isplitl [Hg1]; · iexact Hg1
      isplitl [Hw1]; · iexact Hw1
      isplitl [Hg2]; · iexact Hg2
      isplitl [Hw2]; · iexact Hw2
      isplitl [Hg3]; · iexact Hg3
      isplitl [Hw3]; · iexact Hw3
      isplitl [Hg4]; · iexact Hg4
      isplitl [Hw4]; · iexact Hw4
      isplitl [Hs]; · iexact Hs
      iexact Hs'
    iexact Hsems
  iexact HO

end Task

end Cert.Proof.Lookup

end
-- ==== Proof.Launch.lean ====
/-
  The kernel's launch: the arrays cut among the 32 tiles and joined again, @main around the call, and the program's run —
  from any memory whose positions are in range, the result the rows looked up, the arguments unchanged, every semaphore
  back at zero. Stated at any float values and operations, so that both the kernel's programs have it.
-/
module

public import proofs.«01_k».proof.Proof.Task

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay)
open Idealize.ShloMosaic.StableHlo (held wp_hlo_within)
open Idealize.ShloMosaic.StableHlo.Predicate (ij ij_eta)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays among the tiles -/

/-- Tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The tile a pair names. -/
abbrev tile (x : Fin 2 × Fin 16) : grid0.Coords := coordsV x.1 x.2

theorem base_tile (x : Fin 2 × Fin 16) : base (tile x) = 12800 * x.2.val + 6400 * x.1.val := rfl

/-- A tile's share of the table, one of 32. -/
def tabShare (x : Fin 2 × Fin 16) : PosShare TreeShare := ShareLeaves.leaf 5 fullShare (finProdFinEquiv (m := 2) (n := 16) x)

theorem bands_disjoint {s : Shape} {ax : Fin s.rank} (x y : Fin 2 × Fin 16) (h : x ≠ y) :
    Disjoint (band s ax (base (tile x)) (base (tile x) + 6400)) (band s ax (base (tile y)) (base (tile y) + 6400)) := by
  refine Finset.disjoint_left.mpr fun i hx hy => h ?_
  rw [mem_band, base_tile] at hx hy
  have := x.1.isLt; have := y.1.isLt
  exact Prod.ext (Fin.ext (by omega)) (Fin.ext (by omega))

theorem bands_cover {s : Shape} {ax : Fin s.rank} (hs : s.size ax = 204800) :
    (Finset.univ : Finset (Fin 2 × Fin 16)).biUnion (fun x => band s ax (base (tile x)) (base (tile x) + 6400)) = Finset.univ := by
  refine Finset.eq_univ_of_forall fun i => Finset.mem_biUnion.mpr ?_
  have hi : (i ax).val < 204800 := hs ▸ (i ax).isLt
  refine ⟨(⟨(i ax).val % 12800 / 6400, by omega⟩, ⟨(i ax).val / 12800, by omega⟩), Finset.mem_univ _, ?_⟩
  rw [mem_band, base_tile]
  constructor <;> simp only <;> omega

/-- An array of 204800 along `ax` is the tiles' bands of it. -/
theorem pts_bands {ℓ : Loc nD τ sig} (ax : Fin ℓ.ty.shape.rank) (hs : ℓ.ty.shape.size ax = 204800) (f : Buf (Elt F) ℓ) :
    (ℓ ↦{fullShare} f : sProp 𝕄)
      = bigSep Finset.univ fun x : Fin 2 × Fin 16 => ℓ ↦[band ℓ.ty.shape ax (base (tile x) + 0) (base (tile x) + 6400)]{fullShare} f := by
  rw [← pointsTo_biUnion Finset.univ (fun x => band ℓ.ty.shape ax (base (tile x) + 0) (base (tile x) + 6400)) (fun x _ y _ h => bands_disjoint x y h)]
  exact congrArg (fun I => (ℓ ↦[I]{fullShare} f : sProp 𝕄)) (bands_cover hs).symm

theorem pts_shares {ℓ : Loc nD τ sig} (f : Buf (Elt F) ℓ) :
    (ℓ ↦{fullShare} f : sProp 𝕄) = bigSep Finset.univ fun x : Fin 2 × Fin 16 => ℓ ↦{tabShare x} f :=
  (ShareLeaves.pointsTo_leaves Finset.univ f 5 fullShare).trans
    (bigSep_univ_equiv (finProdFinEquiv (m := 2) (n := 16)) fun i : Fin (2 ^ 5) => (ℓ ↦{ShareLeaves.leaf 5 fullShare i} f : sProp 𝕄))

section Launch

variable (m : (ℓ : Loc nD τ sig) → Buf (Elt F) ℓ) (ρ : Dev nD → PrngReg)

/-- The positions as one list. -/
def flat (m : (ℓ : Loc nD τ sig) → Buf (Elt F) ℓ) (d : Dev nD) : S204800.Idx → Elt F .i32 := shapeCast S204800 (m (posLoc d)) shapeCasts_S1024x200_S204800
/-- The rows looked up, as @main returns them. -/
def target (m : (ℓ : Loc nD τ sig) → Buf (Elt F) ℓ) (d : Dev nD) : S1024x200x128.Idx → Elt F .f32 :=
  shapeCast S1024x200x128 (looked (m (tabLoc d)) (flat m d)) shapeCasts_S204800x128_S1024x200x128

/-- What the proof asks of the launch memory. -/
def PreOK : Prop := ∀ d : Dev nD, InRange (flat m d)

/-! ## What the handshakes carry -/

abbrev tIn (d : Dev nD) (x : Fin 2 × Fin 16) : sProp 𝕄 :=
  taskIn d (tile x) (m (tabLoc d)) (flat m d) (m (outLoc d)) (tabShare x)
abbrev tOut (d : Dev nD) (x : Fin 2 × Fin 16) : sProp 𝕄 :=
  taskOut d (tile x) (m (tabLoc d)) (flat m d) (tabShare x)

/-- A SparseCore of the call and a tile of it, as a pair. -/
abbrev pair (c : Fin ((K (F := F)).nCore 0)) (i : Fin ((K (F := F)).nSub 0)) : Fin 2 × Fin 16 := (Fin.cast rfl c, Fin.cast rfl i)

/-- A SparseCore takes what its tiles take, and brings back what they bring back. -/
def P : (K (F := F)).Pay (nD := nD) (Val := Elt F) (Name := ℕ) (U := UU) where
  st := fun q d c => match q with | 0 => bigSep Finset.univ fun i : Fin ((K (F := F)).nSub 0) => tIn m d (pair c i)
  dn := fun q d c => match q with | 0 => bigSep Finset.univ fun i : Fin ((K (F := F)).nSub 0) => tOut m d (pair c i)
  go := fun q d c i => match q with | 0 => tIn m d (pair c i)
  td := fun q d c i => match q with | 0 => tOut m d (pair c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => tIn m d (pair c i)))
  dn q d c := match q with
    | 0 => (inferInstance : BI.Storable (upEmb : UEmb _ 𝕄) (bigSep Finset.univ fun i : Fin ((K (F := F)).nSub 0) => tOut m d (pair c i)))
  go q d c i := match q with | 0 => (inferInstance : BI.Storable (upEmb : UEmb _ 𝕄) (tIn m d (pair c i)))
  td q d c i := match q with | 0 => (inferInstance : BI.Storable (upEmb : UEmb _ 𝕄) (tOut m d (pair c i)))

theorem vecSplit [FloatOps F] : (K (F := F)).VecSplit' (P m) 0 := by
  intro d c
  show (bigSep Finset.univ fun i : Fin ((K (F := F)).nSub 0) => tIn m d (pair c i)) ⊢ |={Set.univ}=> iprop(
      (bigSep Finset.univ fun i : Fin ((K (F := F)).nSub 0) => tIn m d (pair c i))
      ∗ ((bigSep Finset.univ fun i : Fin ((K (F := F)).nSub 0) => tOut m d (pair c i))
          -∗ bigSep Finset.univ fun i : Fin ((K (F := F)).nSub 0) => tOut m d (pair c i)))
  iintro H; imodintro
  isplitl [H]; · iexact H
  iintro H; iexact H

/-! ## The tasks' obligation -/

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

theorem defs₀_vector (c : Fin τ.nSC) (s : Fin τ.nSub) :
    defs₀ (F := F) (.scVector c s) 0 () = SparseCore.onTile hcore0 hsub0 (fun c s => bodyP (F := F) (coordsV c s)) ⟨⟩ c s := rfl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task d (tile (pair c i)) (m (tabLoc d)) (flat m d) (m (outLoc d)) (tabShare (pair c i)) hF (hpre d) O W hO).trans
    (wp_mono frame _ _ fun _ => obl_post)

/-! ## @main on the TensorCore -/

abbrev pos' : DevRef τ sig := Proc.devRef .tc (main_arg0 : Ref sig .tc)
abbrev tab' : DevRef τ sig := Proc.devRef .tc (main_arg1 : Ref sig .tc)
abbrev idx' : DevRef τ sig := Proc.devRef .tc (main_v0 : Ref sig .tc)
abbrev out' : DevRef τ sig := Proc.devRef .tc (main_v1 : Ref sig .tc)
abbrev res' : DevRef τ sig := Proc.devRef .tc (main_v2 : Ref sig .tc)
abbrev opFlat : HloOp τ sig (Elt F) := StableHlo.reshape main_arg0 main_v0 rfl shapeCasts_S1024x200_S204800
abbrev opShape : HloOp τ sig (Elt F) := StableHlo.reshape main_v1 main_v2 rfl shapeCasts_S204800x128_S1024x200x128

/-- The program's arrays. -/
abbrev arrays : Finset (DevRef τ sig) := {pos', tab', idx', out', res'}

theorem held_arrays (d : Dev nD) (V : Valuation τ sig (Elt F)) :
    (held (SparseCore.T d) arrays V : sProp 𝕄)
      = iprop((posLoc d ↦{fullShare} V pos') ∗ (tabLoc d ↦{fullShare} V tab') ∗ (idxLoc d ↦{fullShare} V idx')
          ∗ (outLoc d ↦{fullShare} V out') ∗ resLoc d ↦{fullShare} V res') := by
  unfold held arrays
  iterate 4 rw [SparseCore.bigSep_insert' (by decide)]
  rw [bigSep_singleton]

/-- The arrays' contents at the launch, before the call, and after it. -/
def V0 (d : Dev nD) : Valuation τ sig (Elt F) := fun b => m (d, b)
def V1 (d : Dev nD) : Valuation τ sig (Elt F) := (opFlat (F := F)).result (V0 m d)
def V2 (d : Dev nD) : Valuation τ sig (Elt F) := Function.update (V1 m d) out' (looked (m (tabLoc d)) (flat m d))

theorem unscoped_held (d : Dev nD) : (unscopedBufs d (fun b => m ((SparseCore.T d).loc b)) : sProp 𝕄) = held (SparseCore.T d) arrays (V0 m d) := by
  rw [held_arrays]
  unfold unscopedBufs
  rw [show (Finset.univ.filter fun b : Ref sig .tc => ¬ b.isScoped) = {main_arg0, main_arg1, main_v0, main_v1, main_v2} by decide]
  iterate 4 rw [SparseCore.bigSep_insert' (by decide)]
  rw [bigSep_singleton]
  rfl

theorem V1_idx (d : Dev nD) : V1 m d idx' = flat m d := StableHlo.reshape_result _ _ _ _ _ _ _
theorem V1_of_ne (d : Dev nD) {b : DevRef τ sig} (h : b ∉ ({idx'} : Finset (DevRef τ sig))) : V1 m d b = m (d, b) :=
  (opFlat (F := F)).result_of_not_mem _ h

/-- What the call takes and brings back. -/
abbrev callIn (d : Dev nD) (f : Buf (Elt F) (outLoc d)) : sProp 𝕄 :=
  iprop((idxLoc d ↦{fullShare} flat m d) ∗ (tabLoc d ↦{fullShare} m (tabLoc d)) ∗ outLoc d ↦{fullShare} f)

theorem call_split (d : Dev nD) (f : Buf (Elt F) (outLoc d)) :
    callIn m d f = bigSep Finset.univ fun c : Fin ((K (F := F)).nCore 0) => bigSep Finset.univ fun i : Fin ((K (F := F)).nSub 0) =>
      iprop(idxPts d (tile (pair c i)) (flat m d) 0 6400 ∗ (tabLoc d ↦{tabShare (pair c i)} m (tabLoc d))
        ∗ todoPts d (tile (pair c i)) f 0 6400) := by
  rw [callIn, pts_bands (ℓ := idxLoc d) (ax := (0 : Fin 1)) rfl, pts_bands (ℓ := outLoc d) (ax := (0 : Fin 2)) rfl,
    pts_shares (ℓ := tabLoc d), ← bigSep_sep', ← bigSep_sep', bigSep_univ_prod]
  rfl

theorem st0_eq (d : Dev nD) : (bigSep Finset.univ fun c : Fin ((K (F := F)).nCore 0) => (P m).st 0 d c) = callIn m d (m (outLoc d)) :=
  (call_split m d _).symm
theorem dn0_eq (d : Dev nD) : (bigSep Finset.univ fun c : Fin ((K (F := F)).nCore 0) => (P m).dn 0 d c) = callIn m d (looked (m (tabLoc d)) (flat m d)) :=
  (call_split m d _).symm

/-- What @main leaves: its arguments as they were, its result the rows looked up. -/
abbrev FIN (d : Dev nD) : sProp 𝕄 :=
  iprop((posLoc d ↦{fullShare} m (posLoc d)) ∗ (tabLoc d ↦{fullShare} m (tabLoc d)) ∗ resLoc d ↦{fullShare} target m d)

/-- The arrays before the call, -/
theorem held_before (d : Dev nD) :
    (held (SparseCore.T d) arrays ((opFlat (F := F)).result (V0 m d)) : sProp 𝕄)
      = iprop((posLoc d ↦{fullShare} m (posLoc d)) ∗ (tabLoc d ↦{fullShare} m (tabLoc d)) ∗ (idxLoc d ↦{fullShare} flat m d)
          ∗ (outLoc d ↦{fullShare} m (outLoc d)) ∗ resLoc d ↦{fullShare} m (resLoc d)) := by
  show held (SparseCore.T d) arrays (V1 m d) = _
  rw [held_arrays, V1_idx, V1_of_ne m d (b := pos') (by decide), V1_of_ne m d (b := tab') (by decide), V1_of_ne m d (b := out') (by decide),
    V1_of_ne m d (b := res') (by decide)]
/-- after it, -/
theorem held_after (d : Dev nD) :
    (held (SparseCore.T d) arrays (V2 m d) : sProp 𝕄)
      = iprop((posLoc d ↦{fullShare} m (posLoc d)) ∗ (tabLoc d ↦{fullShare} m (tabLoc d)) ∗ (idxLoc d ↦{fullShare} flat m d)
          ∗ (outLoc d ↦{fullShare} looked (m (tabLoc d)) (flat m d)) ∗ resLoc d ↦{fullShare} m (resLoc d)) := by
  have e {b : DevRef τ sig} (h : b ≠ out') : V2 m d b = V1 m d b := Function.update_of_ne h _ _
  rw [held_arrays, show V2 m d out' = _ from Function.update_self _ _ _, e (b := pos') (by decide), e (b := tab') (by decide),
    e (b := idx') (by decide), e (b := res') (by decide), V1_idx, V1_of_ne m d (b := pos') (by decide), V1_of_ne m d (b := tab') (by decide),
    V1_of_ne m d (b := res') (by decide)]
/-- and at the end. -/
theorem held_end (d : Dev nD) :
    (held (SparseCore.T d) arrays ((opShape (F := F)).result (V2 m d)) : sProp 𝕄) ⊢ FIN m d := by
  have e {b : DevRef τ sig} (h : b ∉ ({res'} : Finset (DevRef τ sig))) : (opShape (F := F)).result (V2 m d) b = V2 m d b :=
    (opShape (F := F)).result_of_not_mem _ h
  have e' {b : DevRef τ sig} (h : b ≠ out') : V2 m d b = V1 m d b := Function.update_of_ne h _ _
  rw [held_arrays, e (b := pos') (by decide), e (b := tab') (by decide), e' (b := pos') (by decide), e' (b := tab') (by decide),
    V1_of_ne m d (b := pos') (by decide), V1_of_ne m d (b := tab') (by decide),
    show (opShape (F := F)).result (V2 m d) res' = target m d from
      (StableHlo.reshape_result _ _ _ _ _ _ _).trans (by rw [show V2 m d out' = _ from Function.update_self _ _ _]; rfl)]
  iintro ⟨Hp, Ht, -, -, Hr⟩
  isplitl [Hp]; · iexact Hp
  isplitl [Ht]; · iexact Ht
  iexact Hr

/-- @main on device `d`'s TensorCore: the positions made one list, the call, the result given its shape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := arrays) (show ({pos', idx'} : Finset (DevRef τ sig)) ⊆ arrays by decide)
    (V := V0 m d)) $$ [Hb Hheld]
  · isplitl [Hb] <;> iassumption
  iintro ⟨Hb, Hheld⟩
  rw [wp_ret]; imodintro
  ihave Hh := (Entails.of_eq (held_before (F := F) m d)) $$ Hheld
  icases Hh with ⟨Hp, Ht, Hi, Ho, Hr⟩
  iapply ((K (F := F)).wp_run (D (F := F)) 𝒱 (EH := EH) (P := P m) κ d 0) $$ [Hst Hp Ht Hi Ho Hr Hb Hts]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  iapply (wp_hlo_within 𝒱 (SparseCore.T d) none Set.univ (op := opShape) (S := arrays) (show ({out', res'} : Finset (DevRef τ sig)) ⊆ arrays by decide)
    (V := V2 m d)) $$ [Hb Hp Ht Hi Ho Hr]
  · isplitl [Hb]; · iexact Hb
    rw [held_after]
    isplitl [Hp]; · iexact Hp
    isplitl [Ht]; · iexact Ht
    isplitl [Hi]; · iexact Hi
    isplitl [Ho]; · iexact Ho
    iexact Hr
  iintro ⟨Hb, Hheld⟩
  rw [wp_ret]; imodintro; imodintro
  isplitl [Hst]; · iexact Hst
  isplitl [Hheld]; · iapply (held_end m d); iexact Hheld
  isplitl [Hb] <;> iassumption

/-! ## The launch's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_emp']
  iempintro

/-! ## The run -/

/-- What the final state reads, a device at a time. -/
def fq (d : Dev nD) (s' : Phys nD τ sig (Elt F)) : Prop :=
  s'.mem.mem (posLoc d) = m (posLoc d) ∧ s'.mem.mem (tabLoc d) = m (tabLoc d) ∧ s'.mem.mem (resLoc d) = target m d

theorem reads {ℓ : Loc nD τ sig} {f : Buf (Elt F) ℓ} {s' : Phys nD τ sig (Elt F)} :
    iprop((ℓ ↦{fullShare} f) ∗ SI s') ⊢ (iprop(⌜s'.mem.mem ℓ = f⌝ ∗ SI s') : sProp 𝕄) := by
  iintro ⟨Hf, HSI⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr; · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨Hp, Ht, Hr⟩, HSI⟩
  ihave H := reads $$ [Hp HSI]
  · isplitl [Hp] <;> iassumption
  icases H with ⟨%hp, HSI⟩
  ihave H := reads $$ [Ht HSI]
  · isplitl [Ht] <;> iassumption
  icases H with ⟨%ht, HSI⟩
  ihave H := reads $$ [Hr HSI]
  · isplitl [Hr] <;> iassumption
  icases H with ⟨%hr, -⟩
  ipureintro; exact ⟨hp, ht, hr⟩

def QC : PUnit × MemSt nD τ sig (Elt F) → Prop := fun r =>
  (∀ c : Dev nD, r.2.mem (posLoc c) = m (posLoc c) ∧ r.2.mem (tabLoc c) = m (tabLoc c) ∧ r.2.mem (resLoc c) = target m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

end Cert.Proof.Lookup

end
-- ==== Proof.Reference.lean ====
/-
  The reference's value: where every position names a row of the table, jnp.take's printed operations — the wrap of a
  negative position, the mask of a position past the end, the gather — leave the table's row at each position, which is
  the array the kernel returns. And what the precondition, as it is printed, says of the positions.
-/
module

public import proofs.«01_k».proof.Proof.Launch
public import proofs.«01_k».proof.Proof.Gen.ReferenceIdeal.Run
public import proofs.«01_k».proof.Proof.Gen.Pre_in_range
public import Idealize.ShloMosaic.Lib.ReduceAll
public import Idealize.ShloMosaic.Lib.Pointwise.Reshape

@[expose] public section

noncomputable section

namespace Cert.Proof.Lookup

open Idealize.ShloMosaic
open Idealize.ShloMosaic.StableHlo.Predicate (ij ij_eta)
open Idealize.SL.Sem

variable {F : FTy → Type} [FloatOps F]

/-! ## The precondition -/

/-- Conjunction of two tests' bits is the bit of both. -/
theorem andi_bits (p q : Bool) : IntOp.andi (BitVec.ofBool p) (BitVec.ofBool q) = BitVec.ofBool (p && q) := by
  cases p <;> cases q <;> decide

theorem bit_eq_one (p : Bool) : BitVec.ofBool p = 1#1 ↔ p = true := by cases p <;> decide

/-- A word from 0 up to 100000, tested signed, is its own value below 100000. -/
theorem lt_of_tests {v : BitVec 32} (e : IntOp.andi (IntOp.cmpi .sge v 0#32) (IntOp.cmpi .slt v 100000#32) = 1#1) :
    v.toNat < 100000 := by
  simp only [IntOp.cmpi, andi_bits, bit_eq_one, Bool.and_eq_true, BitVec.sle_eq_decide, BitVec.slt_eq_decide,
    decide_eq_true_eq, BitVec.toInt_eq_toNat_cond, BitVec.toNat_ofNat, Nat.reducePow, Nat.reduceMod] at e
  omega

/-- The positions, as the two arguments' array, all in range. -/
def Rows (x : IVec ⟨2, ![1024, 200]⟩ 32) : Prop := ∀ y, (x y).toNat < 100000

/-- The precondition's one bit, set: every position names a row. -/
theorem rows_of_pre {x : IVec ⟨2, ![1024, 200]⟩ 32} {w : FVec F ⟨2, ![100000, 128]⟩ .f32}
    (h : Cert.Pre_in_range.fn x w = fun _ => 1#1) : Rows x := fun y => by
  have : Subsingleton Cert.Pre_in_range.S_.Idx := ⟨fun a b => funext fun k => k.elim0⟩
  have e := Host.reduce_andi_all _ _ _ _ _ (congrFun h fun k => k.elim0) y
  exact lt_of_tests e

open Cert.KernelIdeal in
/-- In-range positions are in range as one list. -/
theorem ok_of_rows {m : (ℓ : Loc nD τ sig) → Buf (Elt F) ℓ} (h : ∀ d, Rows (m (posLoc d))) : PreOK m :=
  fun d _ => h d _

section Reference

/-! ## The gather -/

open Cert.ReferenceIdeal Cert.ReferenceIdeal.Gen

/-- Entry `(a, b, 0)` of the start indices. -/
abbrev startAt (y : S1024x200x128.Idx) : S1024x200x1.Idx := fun | ⟨0, _⟩ => y 0 | ⟨1, _⟩ => y 1 | ⟨2, _⟩ => (0 : Fin 1)

/-- The gather at `(a, b, c)`: entry `c` of the table's row at start index `(a, b, 0)`, when that names a row. -/
theorem gather_at {α : Type} (t : S100000x128.Idx → α) (ix : IVec S1024x200x1 32) (y : S1024x200x128.Idx)
    (h : (ix (startAt y)).toNat < 100000) :
    Host.gather gather_S100000x128_S1024x200x1_S1024x200x128_2_0_n_n_0_2_1128 t ix y = t (ij (rowAt (ix (startAt y))) (y 2)) := by
  unfold Host.gather
  refine congrArg t (funext fun a => Fin.ext ?_)
  show GatherDims.start _ y ix a + GatherDims.batchCoord _ y a + GatherDims.offCoord _ y a = _
  rw [GatherDims.batchCoord_eq_zero _ _ _ List.not_mem_nil, Nat.add_zero]
  rcases (show a = (0 : Fin 2) ∨ a = (1 : Fin 2) from match a with | ⟨0, _⟩ => .inl rfl | ⟨1, _⟩ => .inr rfl) with rfl | rfl
  · rw [GatherDims.offCoord_eq_zero _ _ _ fun h => ((GatherDims.mem_sKept _ _).1 h).1 (List.mem_singleton.2 rfl), Nat.add_zero]
    unfold GatherDims.start
    rw [dif_pos (show (0 : Fin 2) ∈ gather_S100000x128_S1024x200x1_S1024x200x128_2_0_n_n_0_2_1128.startIndexMap from List.mem_singleton.2 rfl), show GatherDims.siIdx _ y _ = startAt y from funext fun b => Fin.ext (by
      match b with
      | ⟨0, _⟩ => rfl
      | ⟨1, _⟩ => rfl
      | ⟨2, _⟩ => rfl)]
    show min (ix (startAt y)).toInt.toNat (100000 - 1) = (rowAt (ix (startAt y))).val
    rw [rowAt_val h, BitVec.toInt_eq_toNat_cond]
    omega
  · unfold GatherDims.start
    rw [dif_neg (show (1 : Fin 2) ∉ gather_S100000x128_S1024x200x1_S1024x200x128_2_0_n_n_0_2_1128.startIndexMap from fun h => absurd (List.mem_singleton.1 h) (by decide)), Nat.zero_add]
    rfl

/-! ## The value -/

variable (x : IVec S1024x200 32) (w : FVec F S100000x128 .f32)

/-- The positions with the table's length added to the negative ones. -/
def wrapped : IVec S1024x200 32 :=
  select (cmpi .slt x (broadcastInDim S1024x200 ![] bcast_S_S1024x200 (constantI S_ 32 0#32)))
    (addi x (broadcastInDim S1024x200 ![] bcast_S_S1024x200 (constantI S_ 32 100000#32))) x

/-- The positions as start indices. -/
def starts : IVec S1024x200x1 32 := broadcastInDim S1024x200x1 ![0, 1] bcast_S1024x200_S1024x200x1_0_1 (wrapped x)

/-- Whether each start index is in the table. -/
def inTable : IVec S1024x200x1 1 :=
  andi (cmpi .sge (starts x) (broadcastInDim S1024x200x1 ![] bcast_S_S1024x200x1 (constantI S_ 32 0#32)))
    (cmpi .sle (starts x) (broadcastInDim S1024x200x1 ![0, 1, 2] bcast_S1x1x1_S1024x200x1_0_1_2
      (broadcastInDim S1x1x1 ![2] bcast_S1_S1x1x1_2 (constantI S1 32 99999#32))))

/-- Whether each position's row is kept. -/
def kept : IVec S1024x200 1 :=
  Host.reduce IntOp.andi (inTable x) (constantI S_ 1 1#1) reducesTo_S1024x200x1_S1024x200_d2 h_S_

/-- The reference's result, of its arguments. -/
def taken : S1024x200x128.Idx → F .f32 :=
  select (broadcastInDim S1024x200x128 ![0, 1] bcast_S1024x200_S1024x200x128_0_1 (kept x))
    (Host.gather gather_S100000x128_S1024x200x1_S1024x200x128_2_0_n_n_0_2_1128 w (starts x))
    (broadcastInDim S1024x200x128 ![] bcast_S_S1024x200x128 (constant S_ .f32 0x7FC00000#32))

variable {x}

/-- No position in range is negative, so none is moved. -/
theorem wrapped_eq (h : Rows x) : wrapped x = x := funext fun y => by
  have hy := h y
  show Scalar.select (IntOp.cmpi .slt (x y) 0#32) _ _ = _
  refine if_neg fun e => ?_
  have e' := (bit_eq_one _).1 e
  simp only [BitVec.slt_eq_decide, decide_eq_true_eq, BitVec.toInt_eq_toNat_cond, BitVec.toNat_ofNat, Nat.reducePow,
    Nat.reduceMod] at e'
  omega

theorem starts_at (h : Rows x) (z : S1024x200x1.Idx) : starts x z = x (ij (z 0) (z 1)) := by
  unfold starts
  rw [wrapped_eq h]
  exact congrArg x (funext fun a => match a with | ⟨0, _⟩ => rfl | ⟨1, _⟩ => rfl)

theorem inTable_at (h : Rows x) (z : S1024x200x1.Idx) : inTable x z = 1#1 := by
  have hz := h (ij (z 0) (z 1))
  show IntOp.andi (IntOp.cmpi .sge (starts x z) 0#32) (IntOp.cmpi .sle (starts x z) 99999#32) = 1#1
  rw [starts_at h]
  simp only [IntOp.cmpi, andi_bits, bit_eq_one, Bool.and_eq_true, BitVec.sle_eq_decide,
    decide_eq_true_eq, BitVec.toInt_eq_toNat_cond, BitVec.toNat_ofNat, Nat.reducePow, Nat.reduceMod]
  omega

theorem kept_eq (h : Rows x) : kept x = fun _ => 1#1 :=
  funext fun j => Host.reduce_andi_one _ _ _ _ j rfl (inTable_at h)

/-- The reference at `(a, b, c)`: entry `c` of the table's row at position `(a, b)`. -/
theorem taken_at (h : Rows x) (y : S1024x200x128.Idx) : taken x w y = w (ij (rowAt (x (ij (y 0) (y 1)))) (y 2)) := by
  have hs : starts x (startAt y) = x (ij (y 0) (y 1)) := starts_at h _
  unfold taken
  rw [kept_eq h]
  show Host.gather _ w (starts x) y = _
  rw [gather_at w (starts x) y (by rw [hs]; exact h _), hs]

end Reference

/-! ## The kernel's result is the reference's -/

open Cert.KernelIdeal Cert.KernelIdeal.Gen

/-- The kernel's result at `(a, b, c)`: entry `c` of the table's row at position `(a, b)`. -/
theorem target_at (m : (ℓ : Loc nD τ sig) → Buf (Elt F) ℓ) (d : Dev nD) (y : S1024x200x128.Idx) :
    target m d y = m (tabLoc d) (ij (rowAt (m (posLoc d) (ij (y 0) (y 1)))) (y 2)) := by
  have h0 : (y 0).val < 1024 := (y 0).isLt
  have h1 : (y 1).val < 200 := (y 1).isLt
  have hn : (y 0).val * 200 + (y 1).val < 204800 := by omega
  have hrow : Shape.reshapeEquiv shapeCasts_S204800x128_S1024x200x128 y = ij ⟨(y 0).val * 200 + (y 1).val, hn⟩ (y 2) :=
    Shape.reshapeEquiv_eq_of_vals _ _ _ _ _ (Shape.rowMajor_val_two _) (Shape.rowMajor_val_three _) rfl
  have hpos : Shape.reshapeEquiv shapeCasts_S1024x200_S204800 (at1 ⟨(y 0).val * 200 + (y 1).val, hn⟩) = ij (y 0) (y 1) :=
    Shape.reshapeEquiv_eq_of_vals _ _ _ _ _ (Shape.rowMajor_val_two _) (Shape.rowMajor_val_one _) rfl
  show looked (m (tabLoc d)) (flat m d) (Shape.reshapeEquiv shapeCasts_S204800x128_S1024x200x128 y) = _
  rw [hrow]
  show m (tabLoc d) (ij (rowAt (m (posLoc d) (Shape.reshapeEquiv shapeCasts_S1024x200_S204800 (at1 ⟨_, hn⟩)))) (y 2)) = _
  rw [hpos]; rfl

theorem target_eq (m : (ℓ : Loc nD τ sig) → Buf (Elt F) ℓ) (d : Dev nD) (h : Rows (m (posLoc d))) :
    taken (m (posLoc d)) (m (tabLoc d)) = target m d :=
  funext fun y => (taken_at _ h y).trans (target_at m d y).symm

end Cert.Proof.Lookup

end
-- ==== Proof.lean ====
/-
  The proof of `Cert.Claim` (proof/Defs.lean). Proof/Launch.lean has the lookup kernel's run at any float values, and both
  of the kernel's programs take their frame from it; Proof/Reference.lean has the reference's value, and what the
  precondition says of the positions. Here the claims are put together.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem
open Cert.Proof.Lookup

/-- The kernel runs from in-range positions, its arguments unchanged, every counter back at zero. -/
theorem frame_kernel : Cert.quiescent_Kernel := fun m ρ h =>
  (θ_run Cert.KernelIdeal.defs _ _).mono (fun _ r => ⟨fun c => ⟨(r.1 c).1, (r.1 c).2.1⟩, r.2⟩)
    (run_main (F := Bits) m ρ (ok_of_rows fun d => rows_of_pre (h d)))

/-- So does its idealization. -/
theorem frame_ideal : Cert.quiescent_KernelIdeal := fun m ρ h =>
  (θ_run Cert.KernelIdeal.defs _ _).mono (fun _ r => ⟨fun c => ⟨(r.1 c).1, (r.1 c).2.1⟩, r.2⟩)
    (run_main (F := Ideal) m ρ (ok_of_rows fun d => rows_of_pre (h d)))

/-- The reference runs from any memory, its arguments unchanged; it has no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The two programs return the same rows. -/
theorem same_rows : Cert.algebraic_KernelIdeal_ReferenceIdeal := fun m g m' g' hpre hargs => by
  have hrows := fun d => rows_of_pre (hpre d)
  refine ⟨fun c => target m c,
    (θ_run Cert.KernelIdeal.defs _ _).mono (fun _ r c => ⟨(r.1 c).2.2, (r.1 c).1, (r.1 c).2.1⟩)
      (run_main (F := Ideal) m g (ok_of_rows hrows)),
    (θ_run Cert.ReferenceIdeal.defs _ _).mono (fun _ h c => ⟨(h c).1.trans ?_, (h c).2⟩)
      (Cert.ReferenceIdeal.Value.run (F := Ideal) m' g')⟩
  rw [(hargs c).1, (hargs c).2]
  exact target_eq m c (hrows c)

theorem claim : Cert.Claim :=
  ⟨Cert.Kernel.Gen.facts, Cert.KernelIdeal.Gen.facts, Cert.ReferenceIdeal.Gen.facts, Cert.Pre_in_range.Gen.facts,
    frame_kernel, frame_ideal, frame_reference, fun m ρ _ => frame_reference m ρ (by trivial), trivial, same_rows⟩

end Cert.Proof

end
